-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_evenly_spaced [hPre_evenly_spaced : Cert.Pre_evenly_spaced.Facts] (m : (ℓ : Loc Cert.KernelIdeal.nD Cert.KernelIdeal.τ Cert.KernelIdeal.sig) → Buf (Elt Ideal) ℓ) : Prop :=
  ∀ c : Dev Cert.KernelIdeal.nD,
    (Cert.Pre_evenly_spaced.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_evenly_spaced [hPre_evenly_spaced : Cert.Pre_evenly_spaced.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_evenly_spaced.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_evenly_spaced [hKernelIdeal : Cert.KernelIdeal.Facts] [hPre_evenly_spaced : Cert.Pre_evenly_spaced.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_evenly_spaced m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_evenly_spaced [hReferenceIdeal : Cert.ReferenceIdeal.Facts] [hPre_evenly_spaced : Cert.Pre_evenly_spaced.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_evenly_spaced m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_evenly_spaced [hKernelIdeal : Cert.KernelIdeal.Facts] [hReferenceIdeal : Cert.ReferenceIdeal.Facts] [hPre_evenly_spaced : Cert.Pre_evenly_spaced.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_evenly_spaced m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_evenly_spaced : Cert.Pre_evenly_spaced.Facts),
    quiescent_Kernel (hKernel := hKernel)
    ∧ quiescent_KernelIdeal (hKernelIdeal := hKernelIdeal)
    ∧ quiescent_KernelIdeal_pre_evenly_spaced (hKernelIdeal := hKernelIdeal) (hPre_evenly_spaced := hPre_evenly_spaced)
    ∧ quiescent_ReferenceIdeal (hReferenceIdeal := hReferenceIdeal)
    ∧ quiescent_ReferenceIdeal_pre_evenly_spaced (hReferenceIdeal := hReferenceIdeal) (hPre_evenly_spaced := hPre_evenly_spaced)
    ∧ preserves_Kernel_KernelIdeal
    ∧ algebraic_KernelIdeal_ReferenceIdeal_pre_evenly_spaced (hKernelIdeal := hKernelIdeal) (hReferenceIdeal := hReferenceIdeal) (hPre_evenly_spaced := hPre_evenly_spaced)
-- ==== Pre_evenly_spaced.lean ====
abbrev S65536x16 : Shape := ⟨2, ![65536, 16]⟩
abbrev S16x17 : Shape := ⟨2, ![16, 17]⟩
abbrev S16x16 : Shape := ⟨2, ![16, 16]⟩
abbrev S16x2x8 : Shape := ⟨3, ![16, 2, 8]⟩
abbrev S_ : Shape := ⟨0, ![]⟩
abbrev S16x2x1 : Shape := ⟨3, ![16, 2, 1]⟩
abbrev S16x1 : Shape := ⟨2, ![16, 1]⟩
abbrev S16 : Shape := ⟨1, ![16]⟩
abbrev S1x16 : Shape := ⟨2, ![1, 16]⟩

class Facts : Prop where
  slices_S16x17_S16x16_0_0 : S16x17.Slices ![0, 0] S16x16
  slices_S16x17_S16x16_0_1 : S16x17.Slices ![0, 1] S16x16
  shapeCasts_S16x16_S16x2x8 : S16x16.ShapeCasts S16x2x8
  reducesTo_S16x16_S_d0_1 : S16x16.ReducesTo [0, 1] S_
  h_S_ : 0 < S_.numel
  slices_S16x2x8_S16x2x1_0_0_0 : S16x2x8.Slices ![0, 0, 0] S16x2x1
  bcast_S16x2x1_S16x2x8_0_1_2 : S16x2x1.BroadcastsInDim S16x2x8 (![0, 1, 2] : Fin 3 → Fin S16x2x8.rank)
  reducesTo_S16x2x8_S_d0_1_2 : S16x2x8.ReducesTo [0, 1, 2] S_
  slices_S16x17_S16x1_0_0 : S16x17.Slices ![0, 0] S16x1
  shapeCasts_S16x1_S16 : S16x1.ShapeCasts S16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  reducesTo_S65536x16_S_d0_1 : S65536x16.ReducesTo [0, 1] S_
  slices_S16x17_S16x1_0_16 : S16x17.Slices ![0, 16] S16x1

variable [Facts]

def fn_part1 {F : FTy → Type} [FloatOps F] (main_arg0 : FVec F S65536x16 .f32) (main_v17 : IVec S_ 1) (main_v20 : FVec F S1x16 .f32) : IVec S_ 1 :=
  let main_v21 : FVec F S65536x16 .f32 := broadcastInDim S65536x16 ![0, 1] bcast_S1x16_S65536x16_0_1 main_v20
  let main_v22 : IVec S65536x16 1 := cmpf .ole main_arg0 main_v21
  let main_c_2 : IVec S_ 1 := constantI S_ 1 1#1
  let main_v23 : IVec S_ 1 := (fun x v => Host.reduce IntOp.andi x v reducesTo_S65536x16_S_d0_1 h_S_) main_v22 main_c_2
  let main_v24 : IVec S_ 1 := andi main_v17 main_v23
  main_v24

def fn {F : FTy → Type} [FloatOps F] (main_arg0 : FVec F S65536x16 .f32) (main_arg1 : FVec F S16x17 .f32) : IVec S_ 1 :=
  let main_v0 : FVec F S16x16 .f32 := (extractStridedSlice S16x16 ![0, 0] · slices_S16x17_S16x16_0_0) main_arg1
  let main_v1 : FVec F S16x16 .f32 := (extractStridedSlice S16x16 ![0, 1] · slices_S16x17_S16x16_0_1) main_arg1
  let main_v2 : FVec F S16x16 .f32 := subf main_v1 main_v0
  let main_v3 : FVec F S16x2x8 .f32 := shapeCast S16x2x8 main_v2 shapeCasts_S16x16_S16x2x8
  let main_v4 : IVec S16x16 1 := cmpf .olt main_v0 main_v1
  let main_c : IVec S_ 1 := constantI S_ 1 1#1
  let main_v5 : IVec S_ 1 := (fun x v => Host.reduce IntOp.andi x v reducesTo_S16x16_S_d0_1 h_S_) main_v4 main_c
  let main_v6 : FVec F S16x2x1 .f32 := (extractStridedSlice S16x2x1 ![0, 0, 0] · slices_S16x2x8_S16x2x1_0_0_0) main_v3
  let main_v7 : FVec F S16x2x8 .f32 := broadcastInDim S16x2x8 ![0, 1, 2] bcast_S16x2x1_S16x2x8_0_1_2 main_v6
  let main_v8 : IVec S16x2x8 1 := cmpf .oeq main_v3 main_v7
  let main_c_0 : IVec S_ 1 := constantI S_ 1 1#1
  let main_v9 : IVec S_ 1 := (fun x v => Host.reduce IntOp.andi x v reducesTo_S16x2x8_S_d0_1_2 h_S_) main_v8 main_c_0
  let main_v10 : IVec S_ 1 := andi main_v5 main_v9
  let main_v11 : FVec F S16x1 .f32 := (extractStridedSlice S16x1 ![0, 0] · slices_S16x17_S16x1_0_0) main_arg1
  let main_v12 : FVec F S16 .f32 := shapeCast S16 main_v11 shapeCasts_S16x1_S16
  let main_v13 : FVec F S1x16 .f32 := broadcastInDim S1x16 ![1] bcast_S16_S1x16_1 main_v12
  let main_v14 : FVec F S65536x16 .f32 := broadcastInDim S65536x16 ![0, 1] bcast_S1x16_S65536x16_0_1 main_v13
  let main_v15 : IVec S65536x16 1 := cmpf .ole main_v14 main_arg0
  let main_c_1 : IVec S_ 1 := constantI S_ 1 1#1
  let main_v16 : IVec S_ 1 := (fun x v => Host.reduce IntOp.andi x v reducesTo_S65536x16_S_d0_1 h_S_) main_v15 main_c_1
  let main_v17 : IVec S_ 1 := andi main_v10 main_v16
  let main_v18 : FVec F S16x1 .f32 := (extractStridedSlice S16x1 ![0, 16] · slices_S16x17_S16x1_0_16) main_arg1
  let main_v19 : FVec F S16 .f32 := shapeCast S16 main_v18 shapeCasts_S16x1_S16
  let main_v20 : FVec F S1x16 .f32 := broadcastInDim S1x16 ![1] bcast_S16_S1x16_1 main_v19
  fn_part1 (F := F) main_arg0 main_v17 main_v20
-- ==== Kernel.lean ====
abbrev S65536x16 : Shape := ⟨2, ![65536, 16]⟩
abbrev S16x17 : Shape := ⟨2, ![16, 17]⟩
abbrev S16x16 : Shape := ⟨2, ![16, 16]⟩
abbrev S_ : Shape := ⟨0, ![]⟩
abbrev S16x2x8 : Shape := ⟨3, ![16, 2, 8]⟩
abbrev S16x2x8x16 : Shape := ⟨4, ![16, 2, 8, 16]⟩
abbrev S16x2x128 : Shape := ⟨3, ![16, 2, 128]⟩
abbrev S32x128 : Shape := ⟨2, ![32, 128]⟩
abbrev S512x128x2x8 : Shape := ⟨4, ![512, 128, 2, 8]⟩
abbrev S2x512x8x128 : Shape := ⟨4, ![2, 512, 8, 128]⟩
abbrev S1024x8x128 : Shape := ⟨3, ![1024, 8, 128]⟩
abbrev S131072x128 : Shape := ⟨2, ![131072, 128]⟩
abbrev S512x1x128 : Shape := ⟨3, ![512, 1, 128]⟩
abbrev S1x128 : Shape := ⟨2, ![1, 128]⟩
abbrev S128x128 : Shape := ⟨2, ![128, 128]⟩
abbrev S256x1x128 : Shape := ⟨3, ![256, 1, 128]⟩
abbrev S1x16 : Shape := ⟨2, ![1, 16]⟩
abbrev S16 : Shape := ⟨1, ![16]⟩
abbrev S1x1x16 : Shape := ⟨3, ![1, 1, 16]⟩
abbrev S16x2x512x8x128 : Shape := ⟨5, ![16, 2, 512, 8, 128]⟩
abbrev S512x128x16x2x8 : Shape := ⟨5, ![512, 128, 16, 2, 8]⟩
abbrev S65536x16x16 : Shape := ⟨3, ![65536, 16, 16]⟩

abbrev nBuf : Table → Nat
  | .hbm => 25
  | .local .scVector .vmem => 5
  | _ => 0

abbrev bufTy : (tb : Table) → Fin (nBuf tb) → BufTy
  | .hbm, ⟨0, _⟩ => ⟨S65536x16, .f32⟩
  | .hbm, ⟨1, _⟩ => ⟨S16x17, .f32⟩
  | .hbm, ⟨2, _⟩ => ⟨S16x16, .f32⟩
  | .hbm, ⟨3, _⟩ => ⟨S16x16, .f32⟩
  | .hbm, ⟨4, _⟩ => ⟨S16x16, .f32⟩
  | .hbm, ⟨5, _⟩ => ⟨S_, .f32⟩
  | .hbm, ⟨6, _⟩ => ⟨S16x16, .f32⟩
  | .hbm, ⟨7, _⟩ => ⟨S16x16, .f32⟩
  | .hbm, ⟨8, _⟩ => ⟨S16x16, .f32⟩
  | .hbm, ⟨9, _⟩ => ⟨S16x16, .f32⟩
  | .hbm, ⟨10, _⟩ => ⟨S16x2x8, .f32⟩
  | .hbm, ⟨11, _⟩ => ⟨S16x2x8x16, .f32⟩
  | .hbm, ⟨12, _⟩ => ⟨S16x2x128, .f32⟩
  | .hbm, ⟨13, _⟩ => ⟨S32x128, .f32⟩
  | .hbm, ⟨14, _⟩ => ⟨S16x2x8, .f32⟩
  | .hbm, ⟨15, _⟩ => ⟨S16x2x8x16, .f32⟩
  | .hbm, ⟨16, _⟩ => ⟨S16x2x128, .f32⟩
  | .hbm, ⟨17, _⟩ => ⟨S32x128, .f32⟩
  | .hbm, ⟨18, _⟩ => ⟨S512x128x2x8, .f32⟩
  | .hbm, ⟨19, _⟩ => ⟨S2x512x8x128, .f32⟩
  | .hbm, ⟨20, _⟩ => ⟨S1024x8x128, .f32⟩
  | .hbm, ⟨21, _⟩ => ⟨S131072x128, .f32⟩
  | .hbm, ⟨22, _⟩ => ⟨S16x2x512x8x128, .f32⟩
  | .hbm, ⟨23, _⟩ => ⟨S512x128x16x2x8, .f32⟩
  | .hbm, ⟨24, _⟩ => ⟨S65536x16x16, .f32⟩
  | .local .scVector .vmem, ⟨0, _⟩ => ⟨S512x1x128, .f32⟩
  | .local .scVector .vmem, ⟨1, _⟩ => ⟨S1x128, .f32⟩
  | .local .scVector .vmem, ⟨2, _⟩ => ⟨S1x128, .f32⟩
  | .local .scVector .vmem, ⟨3, _⟩ => ⟨S128x128, .f32⟩
  | .local .scVector .vmem, ⟨4, _⟩ => ⟨S128x128, .f32⟩
  | _, _ => ⟨S65536x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v17_scv : Ref sig .scVector := ⟨.hbm, 20, rfl⟩
abbrev main_v10_scv : Ref sig .scVector := ⟨.hbm, 13, rfl⟩
abbrev main_v14_scv : Ref sig .scVector := ⟨.hbm, 17, rfl⟩
abbrev main_v18_scv : Ref sig .scVector := ⟨.hbm, 21, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c8_i32 : BitVec 32 := 8#32
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let v19 : BitVec 32 := Scalar.divsi v18 c8_i32
  let c1_i32_10 : BitVec 32 := 1#32
  let v34 : BitVec 32 := Scalar.subi v19 c1_i32_10
  let v35 : BitVec 32 := Scalar.select v33 v34 v19
  let c512_i32 : BitVec 32 := 512#32
  let v46 : BitVec 32 := Scalar.muli v35 c512_i32
  let c8_i32_11 : BitVec 32 := 8#32
  let c0_i32_12 : BitVec 32 := 0#32
  let v36 : BitVec 1 := Scalar.cmpi .eq c8_i32_11 c0_i32_12
  let c1_i32_13 : BitVec 32 := 1#32
  let v37 : BitVec 32 := Scalar.select v36 c1_i32_13 c8_i32_11
  let v38 : BitVec 32 := Scalar.remsi v18 v37
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let c0_i32_14 : BitVec 32 := 0#32
  let v39 : BitVec 1 := Scalar.cmpi .ne v38 c0_i32_14
  let v43 : BitVec 1 := Scalar.andi v42 v39
  let v44 : BitVec 32 := Scalar.addi v38 v37
  let v45 : BitVec 32 := Scalar.select v43 v44 v38
  let c0_i32_20 : BitVec 32 := 0#32
  ![v46.toNat, v45.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c8_i32 : BitVec 32 := 8#32
  let c0_i32_7 : BitVec 32 := 0#32
  let v25 : BitVec 1 := Scalar.cmpi .sgt c8_i32 c0_i32_7
  let v26 : BitVec 32 := Scalar.extui v25
  let c0_i32_8 : BitVec 32 := 0#32
  let v27 : BitVec 1 := Scalar.cmpi .slt c8_i32 c0_i32_8
  let v28 : BitVec 32 := Scalar.extui v27
  let v29 : BitVec 32 := Scalar.subi v26 v28
  let v30 : BitVec 1 := Scalar.cmpi .ne v24 v29
  let v31 : BitVec 32 := Scalar.remsi v18 c8_i32
  let c0_i32_9 : BitVec 32 := 0#32
  let v32 : BitVec 1 := Scalar.cmpi .ne v31 c0_i32_9
  let v33 : BitVec 1 := Scalar.andi v30 v32
  let v19 : BitVec 32 := Scalar.divsi v18 c8_i32
  let c1_i32_10 : BitVec 32 := 1#32
  let v34 : BitVec 32 := Scalar.subi v19 c1_i32_10
  let v35 : BitVec 32 := Scalar.select v33 v34 v19
  let c512_i32 : BitVec 32 := 512#32
  let v46 : BitVec 32 := Scalar.muli v35 c512_i32
  let c256_i32 : BitVec 32 := 256#32
  let v51 : BitVec 32 := Scalar.addi v46 c256_i32
  let c8_i32_11 : BitVec 32 := 8#32
  let c0_i32_12 : BitVec 32 := 0#32
  let v36 : BitVec 1 := Scalar.cmpi .eq c8_i32_11 c0_i32_12
  let c1_i32_13 : BitVec 32 := 1#32
  let v37 : BitVec 32 := Scalar.select v36 c1_i32_13 c8_i32_11
  let v38 : BitVec 32 := Scalar.remsi v18 v37
  let c0_i32_15 : BitVec 32 := 0#32
  let v40 : BitVec 1 := Scalar.cmpi .slt v38 c0_i32_15
  let c0_i32_16 : BitVec 32 := 0#32
  let v41 : BitVec 1 := Scalar.cmpi .slt v37 c0_i32_16
  let v42 : BitVec 1 := Scalar.xori v40 v41
  let c0_i32_14 : BitVec 32 := 0#32
  let v39 : BitVec 1 := Scalar.cmpi .ne v38 c0_i32_14
  let v43 : BitVec 1 := Scalar.andi v42 v39
  let v44 : BitVec 32 := Scalar.addi v38 v37
  let v45 : BitVec 32 := Scalar.select v43 v44 v38
  let c0_i32_28 : BitVec 32 := 0#32
  ![v51.toNat, v45.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_102_r0 : BitVec 32 := 0#32
  ![v1.toNat, 0]
@[reducible] def k0_t1_loop : Scf.Loop 32 :=
  let c0_i32_54 : BitVec 32 := 0#32
  let c16_i32 : BitVec 32 := 16#32
  let v87 : BitVec 32 := Scalar.addi c0_i32_54 c16_i32
  let c1_i32_55 : BitVec 32 := 1#32
  ⟨c0_i32_54, v87, c1_i32_55⟩
def k0_off4 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v111 : Index := Scalar.indexCast v110
  let c0_i32_103 : BitVec 32 := 0#32
  let v112 : Index := Scalar.indexCast c0_i32_103
  let c0_104 : Index := 0#32
  ![v111.toNat, 0, 0]
def k0_off5 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v116 : Index := Scalar.indexCast v110
  let c0_i32_105 : BitVec 32 := 0#32
  let v117 : Index := Scalar.indexCast c0_i32_105
  let c16_106 : Index := 16#32
  ![v116.toNat, 0, 16]
def k0_off6 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v121 : Index := Scalar.indexCast v110
  let c0_i32_107 : BitVec 32 := 0#32
  let v122 : Index := Scalar.indexCast c0_i32_107
  let c32_108 : Index := 32#32
  ![v121.toNat, 0, 32]
def k0_off7 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v126 : Index := Scalar.indexCast v110
  let c0_i32_109 : BitVec 32 := 0#32
  let v127 : Index := Scalar.indexCast c0_i32_109
  let c48_110 : Index := 48#32
  ![v126.toNat, 0, 48]
def k0_off8 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v131 : Index := Scalar.indexCast v110
  let c0_i32_111 : BitVec 32 := 0#32
  let v132 : Index := Scalar.indexCast c0_i32_111
  let c64_112 : Index := 64#32
  ![v131.toNat, 0, 64]
def k0_off9 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v136 : Index := Scalar.indexCast v110
  let c0_i32_113 : BitVec 32 := 0#32
  let v137 : Index := Scalar.indexCast c0_i32_113
  let c80_114 : Index := 80#32
  ![v136.toNat, 0, 80]
def k0_off10 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v141 : Index := Scalar.indexCast v110
  let c0_i32_115 : BitVec 32 := 0#32
  let v142 : Index := Scalar.indexCast c0_i32_115
  let c96_116 : Index := 96#32
  ![v141.toNat, 0, 96]
def k0_off11 (k0_t1 : Fin k0_t1_loop.trips) : Fin 3 → Nat :=
  let c0_i32_52 : BitVec 32 := 0#32
  let c16_i32_102 : BitVec 32 := 16#32
  let v109 : BitVec 32 := Scalar.muli c0_i32_52 c16_i32_102
  let c0_i32_54 : BitVec 32 := 0#32
  let c1_i32_55 : BitVec 32 := 1#32
  let arg15 : BitVec 32 := Scf.iv c0_i32_54 c1_i32_55 k0_t1
  let v110 : BitVec 32 := Scalar.addi v109 arg15
  let v146 : Index := Scalar.indexCast v110
  let c0_i32_117 : BitVec 32 := 0#32
  let v147 : Index := Scalar.indexCast c0_i32_117
  let c112_118 : Index := 112#32
  ![v146.toNat, 0, 112]
def k0_off12 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v158 : Index := Scalar.indexCast v152
  let c0_121 : Index := 0#32
  ![v158.toNat, 0]
def k0_off13 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v167 : Index := Scalar.indexCast v152
  let c16_122 : Index := 16#32
  ![v167.toNat, 16]
def k0_off14 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v176 : Index := Scalar.indexCast v152
  let c32_123 : Index := 32#32
  ![v176.toNat, 32]
def k0_off15 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v185 : Index := Scalar.indexCast v152
  let c48_124 : Index := 48#32
  ![v185.toNat, 48]
def k0_off16 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v194 : Index := Scalar.indexCast v152
  let c64_125 : Index := 64#32
  ![v194.toNat, 64]
def k0_off17 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v203 : Index := Scalar.indexCast v152
  let c80_126 : Index := 80#32
  ![v203.toNat, 80]
def k0_off18 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v212 : Index := Scalar.indexCast v152
  let c96_127 : Index := 96#32
  ![v212.toNat, 96]
def k0_off19 (k0_t1 : Fin k0_t1_loop.trips) (c0_i32_120 : BitVec 32) : Fin 2 → Nat :=
  let c0_i32_54 : BitVec 32 := 0#32
  let c1_i32_55 : BitVec 32 := 1#32
  let arg15 : BitVec 32 := Scf.iv c0_i32_54 c1_i32_55 k0_t1
  let c8_i32_119 : BitVec 32 := 8#32
  let v151 : BitVec 32 := Scalar.muli arg15 c8_i32_119
  let v152 : BitVec 32 := Scalar.addi v151 c0_i32_120
  let v221 : Index := Scalar.indexCast v152
  let c112_128 : Index := 112#32
  ![v221.toNat, 112]
def k0_off20 (i : grid0.Coords) (c0_i32_57 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v88 : BitVec 32 := Scalar.muli v1 c4096_i32
  let c128_i32 : BitVec 32 := 128#32
  let v89 : BitVec 32 := Scalar.muli c0_i32_57 c128_i32
  let v90 : BitVec 32 := Scalar.addi v88 v89
  let c0_i32_58 : BitVec 32 := 0#32
  ![v90.toNat, 0]
@[reducible] def k0_t2_loop : Scf.Loop 32 :=
  let c0_i32_64 : BitVec 32 := 0#32
  let c16_i32_65 : BitVec 32 := 16#32
  let v93 : BitVec 32 := Scalar.addi c0_i32_64 c16_i32_65
  let c1_i32_66 : BitVec 32 := 1#32
  ⟨c0_i32_64, v93, c1_i32_66⟩
def k0_off21 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v111 : Index := Scalar.indexCast v110
  let c0_i32_103 : BitVec 32 := 0#32
  let v112 : Index := Scalar.indexCast c0_i32_103
  let c0_104 : Index := 0#32
  ![v111.toNat, 0, 0]
def k0_off22 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v116 : Index := Scalar.indexCast v110
  let c0_i32_105 : BitVec 32 := 0#32
  let v117 : Index := Scalar.indexCast c0_i32_105
  let c16_106 : Index := 16#32
  ![v116.toNat, 0, 16]
def k0_off23 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v121 : Index := Scalar.indexCast v110
  let c0_i32_107 : BitVec 32 := 0#32
  let v122 : Index := Scalar.indexCast c0_i32_107
  let c32_108 : Index := 32#32
  ![v121.toNat, 0, 32]
def k0_off24 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v126 : Index := Scalar.indexCast v110
  let c0_i32_109 : BitVec 32 := 0#32
  let v127 : Index := Scalar.indexCast c0_i32_109
  let c48_110 : Index := 48#32
  ![v126.toNat, 0, 48]
def k0_off25 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v131 : Index := Scalar.indexCast v110
  let c0_i32_111 : BitVec 32 := 0#32
  let v132 : Index := Scalar.indexCast c0_i32_111
  let c64_112 : Index := 64#32
  ![v131.toNat, 0, 64]
def k0_off26 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v136 : Index := Scalar.indexCast v110
  let c0_i32_113 : BitVec 32 := 0#32
  let v137 : Index := Scalar.indexCast c0_i32_113
  let c80_114 : Index := 80#32
  ![v136.toNat, 0, 80]
def k0_off27 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v141 : Index := Scalar.indexCast v110
  let c0_i32_115 : BitVec 32 := 0#32
  let v142 : Index := Scalar.indexCast c0_i32_115
  let c96_116 : Index := 96#32
  ![v141.toNat, 0, 96]
def k0_off28 (k0_t2 : Fin k0_t2_loop.trips) : Fin 3 → Nat :=
  let c1_i32_61 : BitVec 32 := 1#32
  let c16_i32_102 : BitVec 32 := 16#32
  let v109 : BitVec 32 := Scalar.muli c1_i32_61 c16_i32_102
  let c0_i32_64 : BitVec 32 := 0#32
  let c1_i32_66 : BitVec 32 := 1#32
  let arg15 : BitVec 32 := Scf.iv c0_i32_64 c1_i32_66 k0_t2
  let v110 : BitVec 32 := Scalar.addi v109 arg15
  let v146 : Index := Scalar.indexCast v110
  let c0_i32_117 : BitVec 32 := 0#32
  let v147 : Index := Scalar.indexCast c0_i32_117
  let c112_118 : Index := 112#32
  ![v146.toNat, 0, 112]
def k0_off29 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v158 : Index := Scalar.indexCast v152
  let c0_121 : Index := 0#32
  ![v158.toNat, 0]
def k0_off30 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v167 : Index := Scalar.indexCast v152
  let c16_122 : Index := 16#32
  ![v167.toNat, 16]
def k0_off31 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v176 : Index := Scalar.indexCast v152
  let c32_123 : Index := 32#32
  ![v176.toNat, 32]
def k0_off32 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v185 : Index := Scalar.indexCast v152
  let c48_124 : Index := 48#32
  ![v185.toNat, 48]
def k0_off33 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v194 : Index := Scalar.indexCast v152
  let c64_125 : Index := 64#32
  ![v194.toNat, 64]
def k0_off34 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v203 : Index := Scalar.indexCast v152
  let c80_126 : Index := 80#32
  ![v203.toNat, 80]
def k0_off35 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v212 : Index := Scalar.indexCast v152
  let c96_127 : Index := 96#32
  ![v212.toNat, 96]
def k0_off36 (k0_t2 : Fin k0_t2_loop.trips) (c0_i32_120 : BitVec 32) : Fin 2 → Nat :=
  let c0_i32_64 : BitVec 32 := 0#32
  let c1_i32_66 : BitVec 32 := 1#32
  let arg15 : BitVec 32 := Scf.iv c0_i32_64 c1_i32_66 k0_t2
  let c8_i32_119 : BitVec 32 := 8#32
  let v151 : BitVec 32 := Scalar.muli arg15 c8_i32_119
  let v152 : BitVec 32 := Scalar.addi v151 c0_i32_120
  let v221 : Index := Scalar.indexCast v152
  let c112_128 : Index := 112#32
  ![v221.toNat, 112]
@[reducible] def k0_t3_loop : Scf.Loop 32 :=
  let c1_i32_76 : BitVec 32 := 1#32
  let c7_i32 : BitVec 32 := 7#32
  let v99 : BitVec 32 := Scalar.addi c1_i32_76 c7_i32
  let c1_i32_77 : BitVec 32 := 1#32
  ⟨c1_i32_76, v99, c1_i32_77⟩
@[reducible] def k0_t4_loop : Scf.Loop 32 :=
  let c0_i32_108 : BitVec 32 := 0#32
  let c16_i32_109 : BitVec 32 := 16#32
  let v112 : BitVec 32 := Scalar.addi c0_i32_108 c16_i32_109
  let c1_i32_110 : BitVec 32 := 1#32
  ⟨c0_i32_108, v112, c1_i32_110⟩
def k0_off37 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v129 : Index := Scalar.indexCast v128
  let c0_i32_131 : BitVec 32 := 0#32
  let v130 : Index := Scalar.indexCast c0_i32_131
  let c0_132 : Index := 0#32
  ![v129.toNat, 0, 0]
def k0_off38 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v134 : Index := Scalar.indexCast v128
  let c0_i32_133 : BitVec 32 := 0#32
  let v135 : Index := Scalar.indexCast c0_i32_133
  let c16_134 : Index := 16#32
  ![v134.toNat, 0, 16]
def k0_off39 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v139 : Index := Scalar.indexCast v128
  let c0_i32_135 : BitVec 32 := 0#32
  let v140 : Index := Scalar.indexCast c0_i32_135
  let c32_136 : Index := 32#32
  ![v139.toNat, 0, 32]
def k0_off40 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v144 : Index := Scalar.indexCast v128
  let c0_i32_137 : BitVec 32 := 0#32
  let v145 : Index := Scalar.indexCast c0_i32_137
  let c48_138 : Index := 48#32
  ![v144.toNat, 0, 48]
def k0_off41 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v149 : Index := Scalar.indexCast v128
  let c0_i32_139 : BitVec 32 := 0#32
  let v150 : Index := Scalar.indexCast c0_i32_139
  let c64_140 : Index := 64#32
  ![v149.toNat, 0, 64]
def k0_off42 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v154 : Index := Scalar.indexCast v128
  let c0_i32_141 : BitVec 32 := 0#32
  let v155 : Index := Scalar.indexCast c0_i32_141
  let c80_142 : Index := 80#32
  ![v154.toNat, 0, 80]
def k0_off43 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v159 : Index := Scalar.indexCast v128
  let c0_i32_143 : BitVec 32 := 0#32
  let v160 : Index := Scalar.indexCast c0_i32_143
  let c96_144 : Index := 96#32
  ![v159.toNat, 0, 96]
def k0_off44 (k0_t3 : Fin k0_t3_loop.trips) (k0_t4 : Fin k0_t4_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t4
  let v128 : BitVec 32 := Scalar.addi v127 arg16
  let v164 : Index := Scalar.indexCast v128
  let c0_i32_145 : BitVec 32 := 0#32
  let v165 : Index := Scalar.indexCast c0_i32_145
  let c112_146 : Index := 112#32
  ![v164.toNat, 0, 112]
def k0_off45 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v176 : Index := Scalar.indexCast v170
  let c0_149 : Index := 0#32
  ![v176.toNat, 0]
def k0_off46 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v185 : Index := Scalar.indexCast v170
  let c16_150 : Index := 16#32
  ![v185.toNat, 16]
def k0_off47 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v194 : Index := Scalar.indexCast v170
  let c32_151 : Index := 32#32
  ![v194.toNat, 32]
def k0_off48 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v203 : Index := Scalar.indexCast v170
  let c48_152 : Index := 48#32
  ![v203.toNat, 48]
def k0_off49 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v212 : Index := Scalar.indexCast v170
  let c64_153 : Index := 64#32
  ![v212.toNat, 64]
def k0_off50 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v221 : Index := Scalar.indexCast v170
  let c80_154 : Index := 80#32
  ![v221.toNat, 80]
def k0_off51 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v230 : Index := Scalar.indexCast v170
  let c96_155 : Index := 96#32
  ![v230.toNat, 96]
def k0_off52 (k0_t4 : Fin k0_t4_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t4
  let c8_i32_147 : BitVec 32 := 8#32
  let v169 : BitVec 32 := Scalar.muli arg16 c8_i32_147
  let v170 : BitVec 32 := Scalar.addi v169 c0_i32_148
  let v239 : Index := Scalar.indexCast v170
  let c112_156 : Index := 112#32
  ![v239.toNat, 112]
def k0_off53 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_112 : BitVec 32 := 4096#32
  let v113 : BitVec 32 := Scalar.muli v1 c4096_i32_112
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c128_i32_113 : BitVec 32 := 128#32
  let v114 : BitVec 32 := Scalar.muli v109 c128_i32_113
  let v115 : BitVec 32 := Scalar.addi v113 v114
  let c0_i32_114 : BitVec 32 := 0#32
  ![v115.toNat, 0]
@[reducible] def k0_t5_loop : Scf.Loop 32 :=
  let c0_i32_122 : BitVec 32 := 0#32
  let c16_i32_123 : BitVec 32 := 16#32
  let v121 : BitVec 32 := Scalar.addi c0_i32_122 c16_i32_123
  let c1_i32_124 : BitVec 32 := 1#32
  ⟨c0_i32_122, v121, c1_i32_124⟩
def k0_off54 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v129 : Index := Scalar.indexCast v128
  let c0_i32_131 : BitVec 32 := 0#32
  let v130 : Index := Scalar.indexCast c0_i32_131
  let c0_132 : Index := 0#32
  ![v129.toNat, 0, 0]
def k0_off55 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v134 : Index := Scalar.indexCast v128
  let c0_i32_133 : BitVec 32 := 0#32
  let v135 : Index := Scalar.indexCast c0_i32_133
  let c16_134 : Index := 16#32
  ![v134.toNat, 0, 16]
def k0_off56 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v139 : Index := Scalar.indexCast v128
  let c0_i32_135 : BitVec 32 := 0#32
  let v140 : Index := Scalar.indexCast c0_i32_135
  let c32_136 : Index := 32#32
  ![v139.toNat, 0, 32]
def k0_off57 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v144 : Index := Scalar.indexCast v128
  let c0_i32_137 : BitVec 32 := 0#32
  let v145 : Index := Scalar.indexCast c0_i32_137
  let c48_138 : Index := 48#32
  ![v144.toNat, 0, 48]
def k0_off58 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v149 : Index := Scalar.indexCast v128
  let c0_i32_139 : BitVec 32 := 0#32
  let v150 : Index := Scalar.indexCast c0_i32_139
  let c64_140 : Index := 64#32
  ![v149.toNat, 0, 64]
def k0_off59 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v154 : Index := Scalar.indexCast v128
  let c0_i32_141 : BitVec 32 := 0#32
  let v155 : Index := Scalar.indexCast c0_i32_141
  let c80_142 : Index := 80#32
  ![v154.toNat, 0, 80]
def k0_off60 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v159 : Index := Scalar.indexCast v128
  let c0_i32_143 : BitVec 32 := 0#32
  let v160 : Index := Scalar.indexCast c0_i32_143
  let c96_144 : Index := 96#32
  ![v159.toNat, 0, 96]
def k0_off61 (k0_t3 : Fin k0_t3_loop.trips) (k0_t5 : Fin k0_t5_loop.trips) : Fin 3 → Nat :=
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t5
  let v128 : BitVec 32 := Scalar.addi v127 arg16
  let v164 : Index := Scalar.indexCast v128
  let c0_i32_145 : BitVec 32 := 0#32
  let v165 : Index := Scalar.indexCast c0_i32_145
  let c112_146 : Index := 112#32
  ![v164.toNat, 0, 112]
def k0_off62 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v176 : Index := Scalar.indexCast v170
  let c0_149 : Index := 0#32
  ![v176.toNat, 0]
def k0_off63 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v185 : Index := Scalar.indexCast v170
  let c16_150 : Index := 16#32
  ![v185.toNat, 16]
def k0_off64 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v194 : Index := Scalar.indexCast v170
  let c32_151 : Index := 32#32
  ![v194.toNat, 32]
def k0_off65 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v203 : Index := Scalar.indexCast v170
  let c48_152 : Index := 48#32
  ![v203.toNat, 48]
def k0_off66 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v212 : Index := Scalar.indexCast v170
  let c64_153 : Index := 64#32
  ![v212.toNat, 64]
def k0_off67 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v221 : Index := Scalar.indexCast v170
  let c80_154 : Index := 80#32
  ![v221.toNat, 80]
def k0_off68 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v230 : Index := Scalar.indexCast v170
  let c96_155 : Index := 96#32
  ![v230.toNat, 96]
def k0_off69 (k0_t5 : Fin k0_t5_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t5
  let c8_i32_147 : BitVec 32 := 8#32
  let v169 : BitVec 32 := Scalar.muli arg16 c8_i32_147
  let v170 : BitVec 32 := Scalar.addi v169 c0_i32_148
  let v239 : Index := Scalar.indexCast v170
  let c112_156 : Index := 112#32
  ![v239.toNat, 112]
def k0_off70 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_126 : BitVec 32 := 4096#32
  let v122 : BitVec 32 := Scalar.muli v1 c4096_i32_126
  let c2_i32_102 : BitVec 32 := 2#32
  let c1_i32_76 : BitVec 32 := 1#32
  let c1_i32_77 : BitVec 32 := 1#32
  let arg15 : BitVec 32 := Scf.iv c1_i32_76 c1_i32_77 k0_t3
  let v109 : BitVec 32 := Scalar.muli c2_i32_102 arg15
  let c1_i32_120 : BitVec 32 := 1#32
  let v120 : BitVec 32 := Scalar.addi v109 c1_i32_120
  let c128_i32_127 : BitVec 32 := 128#32
  let v123 : BitVec 32 := Scalar.muli v120 c128_i32_127
  let v124 : BitVec 32 := Scalar.addi v122 v123
  let c0_i32_128 : BitVec 32 := 0#32
  ![v124.toNat, 0]
@[reducible] def k0_t6_loop : Scf.Loop 32 :=
  let c8_i32_90 : BitVec 32 := 8#32
  let c8_i32_91 : BitVec 32 := 8#32
  let v104 : BitVec 32 := Scalar.addi c8_i32_90 c8_i32_91
  let c1_i32_92 : BitVec 32 := 1#32
  ⟨c8_i32_90, v104, c1_i32_92⟩
@[reducible] def k0_t7_loop : Scf.Loop 32 :=
  let c0_i32_108 : BitVec 32 := 0#32
  let c16_i32_109 : BitVec 32 := 16#32
  let v112 : BitVec 32 := Scalar.addi c0_i32_108 c16_i32_109
  let c1_i32_110 : BitVec 32 := 1#32
  ⟨c0_i32_108, v112, c1_i32_110⟩
def k0_off71 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v129 : Index := Scalar.indexCast v128
  let c0_i32_131 : BitVec 32 := 0#32
  let v130 : Index := Scalar.indexCast c0_i32_131
  let c0_132 : Index := 0#32
  ![v129.toNat, 0, 0]
def k0_off72 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v134 : Index := Scalar.indexCast v128
  let c0_i32_133 : BitVec 32 := 0#32
  let v135 : Index := Scalar.indexCast c0_i32_133
  let c16_134 : Index := 16#32
  ![v134.toNat, 0, 16]
def k0_off73 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v139 : Index := Scalar.indexCast v128
  let c0_i32_135 : BitVec 32 := 0#32
  let v140 : Index := Scalar.indexCast c0_i32_135
  let c32_136 : Index := 32#32
  ![v139.toNat, 0, 32]
def k0_off74 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v144 : Index := Scalar.indexCast v128
  let c0_i32_137 : BitVec 32 := 0#32
  let v145 : Index := Scalar.indexCast c0_i32_137
  let c48_138 : Index := 48#32
  ![v144.toNat, 0, 48]
def k0_off75 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v149 : Index := Scalar.indexCast v128
  let c0_i32_139 : BitVec 32 := 0#32
  let v150 : Index := Scalar.indexCast c0_i32_139
  let c64_140 : Index := 64#32
  ![v149.toNat, 0, 64]
def k0_off76 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v154 : Index := Scalar.indexCast v128
  let c0_i32_141 : BitVec 32 := 0#32
  let v155 : Index := Scalar.indexCast c0_i32_141
  let c80_142 : Index := 80#32
  ![v154.toNat, 0, 80]
def k0_off77 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v159 : Index := Scalar.indexCast v128
  let c0_i32_143 : BitVec 32 := 0#32
  let v160 : Index := Scalar.indexCast c0_i32_143
  let c96_144 : Index := 96#32
  ![v159.toNat, 0, 96]
def k0_off78 (k0_t6 : Fin k0_t6_loop.trips) (k0_t7 : Fin k0_t7_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c16_i32_130 : BitVec 32 := 16#32
  let v127 : BitVec 32 := Scalar.muli v109 c16_i32_130
  let c0_i32_108 : BitVec 32 := 0#32
  let c1_i32_110 : BitVec 32 := 1#32
  let arg16 : BitVec 32 := Scf.iv c0_i32_108 c1_i32_110 k0_t7
  let v128 : BitVec 32 := Scalar.addi v127 arg16
  let v164 : Index := Scalar.indexCast v128
  let c0_i32_145 : BitVec 32 := 0#32
  let v165 : Index := Scalar.indexCast c0_i32_145
  let c112_146 : Index := 112#32
  ![v164.toNat, 0, 112]
def k0_off79 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v176 : Index := Scalar.indexCast v170
  let c0_149 : Index := 0#32
  ![v176.toNat, 0]
def k0_off80 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v185 : Index := Scalar.indexCast v170
  let c16_150 : Index := 16#32
  ![v185.toNat, 16]
def k0_off81 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v194 : Index := Scalar.indexCast v170
  let c32_151 : Index := 32#32
  ![v194.toNat, 32]
def k0_off82 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v203 : Index := Scalar.indexCast v170
  let c48_152 : Index := 48#32
  ![v203.toNat, 48]
def k0_off83 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v212 : Index := Scalar.indexCast v170
  let c64_153 : Index := 64#32
  ![v212.toNat, 64]
def k0_off84 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v221 : Index := Scalar.indexCast v170
  let c80_154 : Index := 80#32
  ![v221.toNat, 80]
def k0_off85 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v230 : Index := Scalar.indexCast v170
  let c96_155 : Index := 96#32
  ![v230.toNat, 96]
def k0_off86 (k0_t7 : Fin k0_t7_loop.trips) (c0_i32_148 : BitVec 32) : Fin 2 → Nat :=
  let c0_i32_108 : BitVec 32 := 0#32
  let c1_i32_110 : BitVec 32 := 1#32
  let arg16 : BitVec 32 := Scf.iv c0_i32_108 c1_i32_110 k0_t7
  let c8_i32_147 : BitVec 32 := 8#32
  let v169 : BitVec 32 := Scalar.muli arg16 c8_i32_147
  let v170 : BitVec 32 := Scalar.addi v169 c0_i32_148
  let v239 : Index := Scalar.indexCast v170
  let c112_156 : Index := 112#32
  ![v239.toNat, 112]
def k0_off87 (i : grid0.Coords) (k0_t6 : Fin k0_t6_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_112 : BitVec 32 := 4096#32
  let v113 : BitVec 32 := Scalar.muli v1 c4096_i32_112
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c128_i32_113 : BitVec 32 := 128#32
  let v114 : BitVec 32 := Scalar.muli v109 c128_i32_113
  let v115 : BitVec 32 := Scalar.addi v113 v114
  let c0_i32_114 : BitVec 32 := 0#32
  ![v115.toNat, 0]
@[reducible] def k0_t8_loop : Scf.Loop 32 :=
  let c0_i32_122 : BitVec 32 := 0#32
  let c16_i32_123 : BitVec 32 := 16#32
  let v121 : BitVec 32 := Scalar.addi c0_i32_122 c16_i32_123
  let c1_i32_124 : BitVec 32 := 1#32
  ⟨c0_i32_122, v121, c1_i32_124⟩
def k0_off88 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v129 : Index := Scalar.indexCast v128
  let c0_i32_131 : BitVec 32 := 0#32
  let v130 : Index := Scalar.indexCast c0_i32_131
  let c0_132 : Index := 0#32
  ![v129.toNat, 0, 0]
def k0_off89 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v134 : Index := Scalar.indexCast v128
  let c0_i32_133 : BitVec 32 := 0#32
  let v135 : Index := Scalar.indexCast c0_i32_133
  let c16_134 : Index := 16#32
  ![v134.toNat, 0, 16]
def k0_off90 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v139 : Index := Scalar.indexCast v128
  let c0_i32_135 : BitVec 32 := 0#32
  let v140 : Index := Scalar.indexCast c0_i32_135
  let c32_136 : Index := 32#32
  ![v139.toNat, 0, 32]
def k0_off91 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v144 : Index := Scalar.indexCast v128
  let c0_i32_137 : BitVec 32 := 0#32
  let v145 : Index := Scalar.indexCast c0_i32_137
  let c48_138 : Index := 48#32
  ![v144.toNat, 0, 48]
def k0_off92 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v149 : Index := Scalar.indexCast v128
  let c0_i32_139 : BitVec 32 := 0#32
  let v150 : Index := Scalar.indexCast c0_i32_139
  let c64_140 : Index := 64#32
  ![v149.toNat, 0, 64]
def k0_off93 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v154 : Index := Scalar.indexCast v128
  let c0_i32_141 : BitVec 32 := 0#32
  let v155 : Index := Scalar.indexCast c0_i32_141
  let c80_142 : Index := 80#32
  ![v154.toNat, 0, 80]
def k0_off94 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v159 : Index := Scalar.indexCast v128
  let c0_i32_143 : BitVec 32 := 0#32
  let v160 : Index := Scalar.indexCast c0_i32_143
  let c96_144 : Index := 96#32
  ![v159.toNat, 0, 96]
def k0_off95 (k0_t6 : Fin k0_t6_loop.trips) (k0_t8 : Fin k0_t8_loop.trips) : Fin 3 → Nat :=
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c16_i32_130 : BitVec 32 := 16#32
  let v127 : BitVec 32 := Scalar.muli v120 c16_i32_130
  let c0_i32_122 : BitVec 32 := 0#32
  let c1_i32_124 : BitVec 32 := 1#32
  let arg16 : BitVec 32 := Scf.iv c0_i32_122 c1_i32_124 k0_t8
  let v128 : BitVec 32 := Scalar.addi v127 arg16
  let v164 : Index := Scalar.indexCast v128
  let c0_i32_145 : BitVec 32 := 0#32
  let v165 : Index := Scalar.indexCast c0_i32_145
  let c112_146 : Index := 112#32
  ![v164.toNat, 0, 112]
def k0_off96 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v176 : Index := Scalar.indexCast v170
  let c0_149 : Index := 0#32
  ![v176.toNat, 0]
def k0_off97 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v185 : Index := Scalar.indexCast v170
  let c16_150 : Index := 16#32
  ![v185.toNat, 16]
def k0_off98 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v194 : Index := Scalar.indexCast v170
  let c32_151 : Index := 32#32
  ![v194.toNat, 32]
def k0_off99 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v203 : Index := Scalar.indexCast v170
  let c48_152 : Index := 48#32
  ![v203.toNat, 48]
def k0_off100 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v212 : Index := Scalar.indexCast v170
  let c64_153 : Index := 64#32
  ![v212.toNat, 64]
def k0_off101 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v221 : Index := Scalar.indexCast v170
  let c80_154 : Index := 80#32
  ![v221.toNat, 80]
def k0_off102 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v230 : Index := Scalar.indexCast v170
  let c96_155 : Index := 96#32
  ![v230.toNat, 96]
def k0_off103 (k0_t8 : Fin k0_t8_loop.trips) (c0_i32_148 : BitVec 32) : Fin 2 → Nat :=
  let c0_i32_122 : BitVec 32 := 0#32
  let c1_i32_124 : BitVec 32 := 1#32
  let arg16 : BitVec 32 := Scf.iv c0_i32_122 c1_i32_124 k0_t8
  let c8_i32_147 : BitVec 32 := 8#32
  let v169 : BitVec 32 := Scalar.muli arg16 c8_i32_147
  let v170 : BitVec 32 := Scalar.addi v169 c0_i32_148
  let v239 : Index := Scalar.indexCast v170
  let c112_156 : Index := 112#32
  ![v239.toNat, 112]
def k0_off104 (i : grid0.Coords) (k0_t6 : Fin k0_t6_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32_126 : BitVec 32 := 4096#32
  let v122 : BitVec 32 := Scalar.muli v1 c4096_i32_126
  let c2_i32_102 : BitVec 32 := 2#32
  let c8_i32_90 : BitVec 32 := 8#32
  let c1_i32_92 : BitVec 32 := 1#32
  let arg15 : BitVec 32 := Scf.iv c8_i32_90 c1_i32_92 k0_t6
  let v109 : BitVec 32 := Scalar.muli c2_i32_102 arg15
  let c1_i32_120 : BitVec 32 := 1#32
  let v120 : BitVec 32 := Scalar.addi v109 c1_i32_120
  let c128_i32_127 : BitVec 32 := 128#32
  let v123 : BitVec 32 := Scalar.muli v120 c128_i32_127
  let v124 : BitVec 32 := Scalar.addi v122 v123
  let c0_i32_128 : BitVec 32 := 0#32
  ![v124.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x16 : Shape := ⟨2, ![65536, 16]⟩
abbrev S16x17 : Shape := ⟨2, ![16, 17]⟩
abbrev S16x15 : Shape := ⟨2, ![16, 15]⟩
abbrev S1x16x15 : Shape := ⟨3, ![1, 16, 15]⟩
abbrev S65536x16x1 : Shape := ⟨3, ![65536, 16, 1]⟩
abbrev S65536x16x15 : Shape := ⟨3, ![65536, 16, 15]⟩
abbrev S_ : Shape := ⟨0, ![]⟩
abbrev S16 : Shape := ⟨1, ![16]⟩
abbrev S1x16 : Shape := ⟨2, ![1, 16]⟩
abbrev S65536x16x2 : Shape := ⟨3, ![65536, 16, 2]⟩
abbrev S1x1x16 : Shape := ⟨3, ![1, 1, 16]⟩
abbrev S65536x16x16 : Shape := ⟨3, ![65536, 16, 16]⟩

abbrev nBuf : Space → Nat
  | .hbm => 76
  | .vmem => 0
  | .smem => 0
  | _ => 0

abbrev bufTy : (tb : Table) → Fin (tcTables nBuf tb) → BufTy
  | .hbm, ⟨0, _⟩ => ⟨S65536x16, .f32⟩
  | .hbm, ⟨1, _⟩ => ⟨S16x17, .f32⟩
  | .hbm, ⟨2, _⟩ => ⟨S16x15, .f32⟩
  | .hbm, ⟨3, _⟩ => ⟨S1x16x15, .f32⟩
  | .hbm, ⟨4, _⟩ => ⟨S65536x16x1, .f32⟩
  | .hbm, ⟨5, _⟩ => ⟨S65536x16x15, .f32⟩
  | .hbm, ⟨6, _⟩ => ⟨S65536x16x15, .f32⟩
  | .hbm, ⟨7, _⟩ => ⟨S65536x16x15, .i1⟩
  | .hbm, ⟨8, _⟩ => ⟨S65536x16x15, .i32⟩
  | .hbm, ⟨9, _⟩ => ⟨S_, .i32⟩
  | .hbm, ⟨10, _⟩ => ⟨S65536x16, .i32⟩
  | .hbm, ⟨11, _⟩ => ⟨S16, .i32⟩
  | .hbm, ⟨12, _⟩ => ⟨S1x16, .i32⟩
  | .hbm, ⟨13, _⟩ => ⟨S_, .i32⟩
  | .hbm, ⟨14, _⟩ => ⟨S1x16, .i32⟩
  | .hbm, ⟨15, _⟩ => ⟨S1x16, .i1⟩
  | .hbm, ⟨16, _⟩ => ⟨S_, .i32⟩
  | .hbm, ⟨17, _⟩ => ⟨S1x16, .i32⟩
  | .hbm, ⟨18, _⟩ => ⟨S1x16, .i32⟩
  | .hbm, ⟨19, _⟩ => ⟨S1x16, .i32⟩
  | .hbm, ⟨20, _⟩ => ⟨S_, .i32⟩
  | .hbm, ⟨21, _⟩ => ⟨S65536x16, .i32⟩
  | .hbm, ⟨22, _⟩ => ⟨S65536x16, .i1⟩
  | .hbm, ⟨23, _⟩ => ⟨S_, .i32⟩
  | .hbm, ⟨24, _⟩ => ⟨S65536x16, .i32⟩
  | .hbm, ⟨25, _⟩ => ⟨S65536x16, .i32⟩
  | .hbm, ⟨26, _⟩ => ⟨S65536x16, .i32⟩
  | .hbm, ⟨27, _⟩ => ⟨S65536x16, .i32⟩
  | .hbm, ⟨28, _⟩ => ⟨S65536x16x1, .i32⟩
  | .hbm, ⟨29, _⟩ => ⟨S65536x16x1, .i32⟩
  | .hbm, ⟨30, _⟩ => ⟨S65536x16x2, .i32⟩
  | .hbm, ⟨31, _⟩ => ⟨S65536x16, .f32⟩
  | .hbm, ⟨32, _⟩ => ⟨S_, .i32⟩
  | .hbm, ⟨33, _⟩ => ⟨S65536x16, .i32⟩
  | .hbm, ⟨34, _⟩ => ⟨S65536x16, .i32⟩
  | .hbm, ⟨35, _⟩ => ⟨S_, .i32⟩
  | .hbm, ⟨36, _⟩ => ⟨S1x16, .i32⟩
  | .hbm, ⟨37, _⟩ => ⟨S1x16, .i1⟩
  | .hbm, ⟨38, _⟩ => ⟨S_, .i32⟩
  | .hbm, ⟨39, _⟩ => ⟨S1x16, .i32⟩
  | .hbm, ⟨40, _⟩ => ⟨S1x16, .i32⟩
  | .hbm, ⟨41, _⟩ => ⟨S1x16, .i32⟩
  | .hbm, ⟨42, _⟩ => ⟨S_, .i32⟩
  | .hbm, ⟨43, _⟩ => ⟨S65536x16, .i32⟩
  | .hbm, ⟨44, _⟩ => ⟨S65536x16, .i1⟩
  | .hbm, ⟨45, _⟩ => ⟨S_, .i32⟩
  | .hbm, ⟨46, _⟩ => ⟨S65536x16, .i32⟩
  | .hbm, ⟨47, _⟩ => ⟨S65536x16, .i32⟩
  | .hbm, ⟨48, _⟩ => ⟨S65536x16, .i32⟩
  | .hbm, ⟨49, _⟩ => ⟨S65536x16, .i32⟩
  | .hbm, ⟨50, _⟩ => ⟨S65536x16x1, .i32⟩
  | .hbm, ⟨51, _⟩ => ⟨S65536x16x1, .i32⟩
  | .hbm, ⟨52, _⟩ => ⟨S65536x16x2, .i32⟩
  | .hbm, ⟨53, _⟩ => ⟨S65536x16, .f32⟩
  | .hbm, ⟨54, _⟩ => ⟨S65536x16, .f32⟩
  | .hbm, ⟨55, _⟩ => ⟨S65536x16, .f32⟩
  | .hbm, ⟨56, _⟩ => ⟨S65536x16, .f32⟩
  | .hbm, ⟨57, _⟩ => ⟨S16, .i32⟩
  | .hbm, ⟨58, _⟩ => ⟨S1x1x16, .i32⟩
  | .hbm, ⟨59, _⟩ => ⟨S65536x16x1, .i32⟩
  | .hbm, ⟨60, _⟩ => ⟨S65536x16x16, .i32⟩
  | .hbm, ⟨61, _⟩ => ⟨S65536x16x16, .i32⟩
  | .hbm, ⟨62, _⟩ => ⟨S65536x16x16, .i1⟩
  | .hbm, ⟨63, _⟩ => ⟨S_, .f32⟩
  | .hbm, ⟨64, _⟩ => ⟨S_, .f32⟩
  | .hbm, ⟨65, _⟩ => ⟨S65536x16x16, .f32⟩
  | .hbm, ⟨66, _⟩ => ⟨S65536x16x16, .f32⟩
  | .hbm, ⟨67, _⟩ => ⟨S65536x16x16, .f32⟩
  | .hbm, ⟨68, _⟩ => ⟨S1x1x16, .i32⟩
  | .hbm, ⟨69, _⟩ => ⟨S65536x16x1, .i32⟩
  | .hbm, ⟨70, _⟩ => ⟨S65536x16x16, .i32⟩
  | .hbm, ⟨71, _⟩ => ⟨S65536x16x16, .i32⟩
  | .hbm, ⟨72, _⟩ => ⟨S65536x16x16, .i1⟩
  | .hbm, ⟨73, _⟩ => ⟨S65536x16x1, .f32⟩
  | .hbm, ⟨74, _⟩ => ⟨S65536x16x16, .f32⟩
  | .hbm, ⟨75, _⟩ => ⟨S65536x16x16, .f32⟩
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_c_5 : Ref sig .tc := ⟨.hbm, 35, rfl⟩
abbrev main_v27 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_7 : Ref sig .tc := ⟨.hbm, 42, rfl⟩
abbrev main_v32 : Ref sig .tc := ⟨.hbm, 43, rfl⟩
abbrev main_v33 : Ref sig .tc := ⟨.hbm, 44, rfl⟩
abbrev main_c_8 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst : Ref sig .tc := ⟨.hbm, 63, rfl⟩
abbrev main_cst_9 : Ref sig .tc := ⟨.hbm, 64, rfl⟩
abbrev main_call0_v0 : Ref sig .tc := ⟨.hbm, 65, rfl⟩
abbrev main_call0_v1 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call1_v0 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Proof.Trip.lean ====
/-
  One trip of the kernel's innermost loop, written once. Each of the six innermost loops reads eight strips of sixteen
  lanes of one row of the staged inputs, multiplies each by the scale, and for each of the eight bins stores
  `min (max (strip * scale + offset) 0) 1` into that bin's row of the output block. The six printed regions are this one
  program at six choices of offsets and of output block.
-/
module

public import proofs.«01_k».proof.Defs
public import Idealize.ShloMosaic.Lib.Tactic
public import proofs.«01_k».proof.Proof.Gen.KernelIdeal
public import proofs.«01_k».proof.Proof.Gen.KernelIdeal.Skeleton

@[expose] public section

noncomputable section

namespace Cert.Proof.Encode

open Cert.KernelIdeal Cert.KernelIdeal.Gen
open Idealize.ShloMosaic Idealize.SL.Sem

variable {F : FTy → Type} [FloatOps F]

/-- A program of the tile at mesh coordinates `i`. -/
abbrev TileProg (i : grid0.Coords) (F : FTy → Type) : Type → Type 1 :=
  Prog (TpuEff nD τ sig (Elt F) Λ₀ (.scVector ((i 0).castLE hcore0) ((i 1).castLE hsub0)))

/-- A strip of sixteen inputs times the scale. -/
def scaled (s : FVec F S16 .f32) (x : Vec F S1x1x16 .f32) : FVec F S16 .f32 :=
  mulf (shapeCast S16 x shapeCasts_S1x1x16_S16) s

/-- A scaled strip, shifted by a bin's offset and clamped to `[0, 1]`, as the row strip that is stored. -/
def clamped (o : FVec F S16 .f32) (u : FVec F S16 .f32) : FVec F S1x16 .f32 :=
  shapeCast S1x16 (minimumf (maximumf (addf u o) (broadcast S16 (Scalar.ofBits .f32 0x00000000#32)))
    (broadcast S16 (Scalar.ofBits .f32 0x3F800000#32))) shapeCasts_S16_S1x16

/-- Store the listed strips, each after a read of the place it goes to whose value nothing uses. -/
def putStrips (i : grid0.Coords) (ob : Memref sig .scVector .vmem S128x128 .f32) (oo : Fin 8 → Fin 8 → Fin 2 → ℕ)
    (hoo : ∀ a b, ∀ k, oo a b k + S1x16.size k ≤ S128x128.size k) (p : Fin 8 → Fin 8 → FVec F S1x16 .f32) :
    List (Fin 8 × Fin 8) → TileProg i F Unit
  | [] => pure ⟨⟩
  | q :: L => do
    let _ : Vec F S1x16 .f32 ← Prog.lift (.load ob (Rect.unit (s := S128x128) (oo q.1 q.2) S1x16.size (hoo q.1 q.2)).toLoadRect (View.loadsAt_vmem h_S1x16))
    Prog.lift (.store ob (Rect.unit (s := S128x128) (oo q.1 q.2) S1x16.size (hoo q.1 q.2)) (p q.1 q.2) Finset.univ (View.stores_vmem_bits_univ h_S1x16 rfl) (.inl rfl))
    putStrips i ob oo hoo p L

/-- The strips in the order they are stored: bin by bin, and lane group by lane group within a bin. -/
def strips : List (Fin 8 × Fin 8) :=
  [(0, 0), (0, 1), (0, 2), (0, 3), (0, 4), (0, 5), (0, 6), (0, 7), (1, 0), (1, 1), (1, 2), (1, 3), (1, 4), (1, 5), (1, 6), (1, 7),
   (2, 0), (2, 1), (2, 2), (2, 3), (2, 4), (2, 5), (2, 6), (2, 7), (3, 0), (3, 1), (3, 2), (3, 3), (3, 4), (3, 5), (3, 6), (3, 7),
   (4, 0), (4, 1), (4, 2), (4, 3), (4, 4), (4, 5), (4, 6), (4, 7), (5, 0), (5, 1), (5, 2), (5, 3), (5, 4), (5, 5), (5, 6), (5, 7),
   (6, 0), (6, 1), (6, 2), (6, 3), (6, 4), (6, 5), (6, 6), (6, 7), (7, 0), (7, 1), (7, 2), (7, 3), (7, 4), (7, 5), (7, 6), (7, 7)]

/-- A read of one strip of the staged inputs. -/
def getStrip (i : grid0.Coords) (xb : Memref sig .scVector .vmem S512x1x128 .f32) (o : Fin 3 → ℕ)
    (ho : ∀ k, o k + S1x1x16.size k ≤ S512x1x128.size k) : TileProg i F (Vec F S1x1x16 .f32) :=
  Prog.lift (.load xb (Rect.unit (s := S512x1x128) o S1x1x16.size ho).toLoadRect (View.loadsAt_vmem h_S1x1x16))

/-- One trip at given offsets: eight strips read, sixty-four stored. -/
def tripAt (i : grid0.Coords) (xb : Memref sig .scVector .vmem S512x1x128 .f32) (ob : Memref sig .scVector .vmem S128x128 .f32)
    (ox : Fin 8 → Fin 3 → ℕ) (hox : ∀ a, ∀ k, ox a k + S1x1x16.size k ≤ S512x1x128.size k)
    (oo : Fin 8 → Fin 8 → Fin 2 → ℕ) (hoo : ∀ a b, ∀ k, oo a b k + S1x16.size k ≤ S128x128.size k)
    (s : FVec F S16 .f32) (o : Fin 8 → FVec F S16 .f32) : TileProg i F Unit := do
  let x0 ← getStrip i xb (ox 0) (hox 0)
  let x1 ← getStrip i xb (ox 1) (hox 1)
  let x2 ← getStrip i xb (ox 2) (hox 2)
  let x3 ← getStrip i xb (ox 3) (hox 3)
  let x4 ← getStrip i xb (ox 4) (hox 4)
  let x5 ← getStrip i xb (ox 5) (hox 5)
  let x6 ← getStrip i xb (ox 6) (hox 6)
  let x7 ← getStrip i xb (ox 7) (hox 7)
  putStrips i ob oo hoo (fun a b => clamped (o a) (scaled s (![x0, x1, x2, x3, x4, x5, x6, x7] b))) strips

/-- Row `n` of the staged inputs, by strips of sixteen lanes. -/
def rowOff (n : ℕ) (a : Fin 8) : Fin 3 → ℕ := ![n, 0, 16 * a.val]
/-- The eight rows, one per bin, that trip `t` fills of the output block, by strips of sixteen lanes. -/
def blockOff (t : ℕ) (a b : Fin 8) : Fin 2 → ℕ := ![8 * t + a.val, 16 * b.val]

theorem rowOff_inb {n : ℕ} (hn : n < 512) : ∀ a k, rowOff n a k + S1x1x16.size k ≤ S512x1x128.size k := by
  intro a k
  have ha := a.isLt
  fin_cases k
  · show n + 1 ≤ 512; omega
  · show 0 + 1 ≤ 1; omega
  · show 16 * a.val + 16 ≤ 128; omega

theorem blockOff_inb {t : ℕ} (ht : t < 16) : ∀ a b k, blockOff t a b k + S1x16.size k ≤ S128x128.size k := by
  intro a b k
  have ha := a.isLt
  have hb := b.isLt
  fin_cases k
  · show 8 * t + a.val + 1 ≤ 128; omega
  · show 16 * b.val + 16 ≤ 128; omega

/-- Trip `t` over row `n` of the staged inputs. -/
def trip (i : grid0.Coords) (xb : Memref sig .scVector .vmem S512x1x128 .f32) (ob : Memref sig .scVector .vmem S128x128 .f32)
    {n t : ℕ} (hn : n < 512) (ht : t < 16) (s : FVec F S16 .f32) (o : Fin 8 → FVec F S16 .f32) : TileProg i F Unit :=
  tripAt i xb ob (rowOff n) (rowOff_inb hn) (blockOff t) (blockOff_inb ht) s o

/-- A trip at offsets that are the closed ones is the trip at the closed ones. -/
theorem tripAt_eq (i : grid0.Coords) (xb : Memref sig .scVector .vmem S512x1x128 .f32) (ob : Memref sig .scVector .vmem S128x128 .f32)
    {ox : Fin 8 → Fin 3 → ℕ} (hox : ∀ a, ∀ k, ox a k + S1x1x16.size k ≤ S512x1x128.size k)
    {oo : Fin 8 → Fin 8 → Fin 2 → ℕ} (hoo : ∀ a b, ∀ k, oo a b k + S1x16.size k ≤ S128x128.size k)
    (s : FVec F S16 .f32) (o : Fin 8 → FVec F S16 .f32) {n t : ℕ} (hn : n < 512) (ht : t < 16)
    (hx : ∀ a, ox a = rowOff n a) (ho : ∀ a b, oo a b = blockOff t a b) :
    tripAt i xb ob ox hox oo hoo s o = trip i xb ob hn ht s o := by
  obtain rfl : ox = rowOff n := funext hx
  obtain rfl : oo = blockOff t := funext fun a => funext (ho a)
  rfl

section Regions

variable (i : grid0.Coords) (arg2 : Memref sig .scVector .hbm S1024x8x128 .f32) (harg2 : arg2.IsWhole) (arg3 : Memref sig .scVector .hbm S32x128 .f32) (harg3 : arg3.IsWhole) (arg4 : Memref sig .scVector .hbm S32x128 .f32) (harg4 : arg4.IsWhole) (arg5 : Memref sig .scVector .hbm S131072x128 .f32) (harg5 : arg5.IsWhole) (arg6 : Memref sig .scVector .vmem S512x1x128 .f32) (harg6 : arg6.IsWhole) (arg7 : Memref sig .scVector .vmem S1x128 .f32) (harg7 : arg7.IsWhole) (arg8 : Memref sig .scVector .vmem S1x128 .f32) (harg8 : arg8.IsWhole) (arg9 : Memref sig .scVector .vmem S128x128 .f32) (harg9 : arg9.IsWhole) (arg10 : Memref sig .scVector .vmem S128x128 .f32) (harg10 : arg10.IsWhole) (arg11 : DmaSems sig S_) (arg12 : DmaSems sig S_) (arg13 : DmaSems sig S_) (arg14 : DmaSems sig S_) (v109_r0 : DmaSems sig S_) (v109_r1 : DmaSems sig S_)
  (v1 c : BitVec 32) (s o0 o1 o2 o3 o4 o5 o6 o7 : FVec F S16 .f32)

/-- Where trip `t` of the first innermost loop reads its strips. -/
def ox1 (t : Fin k0_t1_loop.trips) : Fin 8 → Fin 3 → ℕ :=
  ![k0_off4 t, k0_off5 t, k0_off6 t, k0_off7 t, k0_off8 t, k0_off9 t, k0_off10 t, k0_off11 t]
/-- Where it stores them. -/
def oo1 (t : Fin k0_t1_loop.trips) (a : Fin 8) : Fin 8 → Fin 2 → ℕ :=
  let r : BitVec 32 := BitVec.ofNat 32 a
  ![k0_off12 t r, k0_off13 t r, k0_off14 t r, k0_off15 t r, k0_off16 t r, k0_off17 t r, k0_off18 t r, k0_off19 t r]

theorem ox1_eq : ∀ t a, ox1 t a = rowOff (0 * 16 + t.val) a := by unfold rowOff; decide +kernel
theorem oo1_eq : ∀ t a b, oo1 t a b = blockOff t.val a b := by unfold blockOff; decide +kernel
theorem row1_lt : ∀ (t : Fin k0_t1_loop.trips), 0 * 16 + t.val < 512 := by decide +kernel

set_option maxRecDepth 65536 in
/-- The first innermost loop's region is one trip. -/
theorem region1 (t : Fin k0_t1_loop.trips) :
    k0_t1_body i arg2 harg2 arg3 harg3 arg4 harg4 arg5 harg5 arg6 harg6 arg7 harg7 arg8 harg8 arg9 harg9 arg10 harg10 arg11 arg12 arg13 arg14 v109_r0 v109_r1
      v1 s o0 o1 o2 o3 o4 o5 o6 o7 c (Scalar.ofBits .f32 0x00000000#32) (Scalar.ofBits .f32 0x3F800000#32) t ⟨⟩
    = trip i arg6 arg9 (row1_lt t) t.isLt s ![o0, o1, o2, o3, o4, o5, o6, o7] :=
  (rfl : _ = tripAt i arg6 arg9 (ox1 t) (fun a => ox1_eq t a ▸ rowOff_inb (row1_lt t) a)
      (oo1 t) (fun a b => oo1_eq t a b ▸ blockOff_inb t.isLt a b) s ![o0, o1, o2, o3, o4, o5, o6, o7]).trans
    (tripAt_eq i arg6 arg9 _ _ s _ (row1_lt t) t.isLt (ox1_eq t) (oo1_eq t))

/-- Where trip `t` of the second innermost loop reads its strips. -/
def ox2 (t : Fin k0_t2_loop.trips) : Fin 8 → Fin 3 → ℕ :=
  ![k0_off21 t, k0_off22 t, k0_off23 t, k0_off24 t, k0_off25 t, k0_off26 t, k0_off27 t, k0_off28 t]
/-- Where it stores them. -/
def oo2 (t : Fin k0_t2_loop.trips) (a : Fin 8) : Fin 8 → Fin 2 → ℕ :=
  let r : BitVec 32 := BitVec.ofNat 32 a
  ![k0_off29 t r, k0_off30 t r, k0_off31 t r, k0_off32 t r, k0_off33 t r, k0_off34 t r, k0_off35 t r, k0_off36 t r]

theorem ox2_eq : ∀ t a, ox2 t a = rowOff (1 * 16 + t.val) a := by unfold rowOff; decide +kernel
theorem oo2_eq : ∀ t a b, oo2 t a b = blockOff t.val a b := by unfold blockOff; decide +kernel
theorem row2_lt : ∀ (t : Fin k0_t2_loop.trips), 1 * 16 + t.val < 512 := by decide +kernel

set_option maxRecDepth 65536 in
/-- The second innermost loop's region is one trip. -/
theorem region2 (t : Fin k0_t2_loop.trips) :
    k0_t2_body i arg2 harg2 arg3 harg3 arg4 harg4 arg5 harg5 arg6 harg6 arg7 harg7 arg8 harg8 arg9 harg9 arg10 harg10 arg11 arg12 arg13 arg14 v109_r0 v109_r1
      v1 s o0 o1 o2 o3 o4 o5 o6 o7 c (Scalar.ofBits .f32 0x00000000#32) (Scalar.ofBits .f32 0x00000000#32) (Scalar.ofBits .f32 0x3F800000#32) t ⟨⟩
    = trip i arg6 arg10 (row2_lt t) t.isLt s ![o0, o1, o2, o3, o4, o5, o6, o7] :=
  (rfl : _ = tripAt i arg6 arg10 (ox2 t) (fun a => ox2_eq t a ▸ rowOff_inb (row2_lt t) a)
      (oo2 t) (fun a b => oo2_eq t a b ▸ blockOff_inb t.isLt a b) s ![o0, o1, o2, o3, o4, o5, o6, o7]).trans
    (tripAt_eq i arg6 arg10 _ _ s _ (row2_lt t) t.isLt (ox2_eq t) (oo2_eq t))

/-- Where trip `t` of the third innermost loop reads its strips. -/
def ox4 (g : Fin k0_t3_loop.trips) (t : Fin k0_t4_loop.trips) : Fin 8 → Fin 3 → ℕ :=
  ![k0_off37 g t, k0_off38 g t, k0_off39 g t, k0_off40 g t, k0_off41 g t, k0_off42 g t, k0_off43 g t, k0_off44 g t]
/-- Where it stores them. -/
def oo4 (t : Fin k0_t4_loop.trips) (a : Fin 8) : Fin 8 → Fin 2 → ℕ :=
  let r : BitVec 32 := BitVec.ofNat 32 a
  ![k0_off45 t r, k0_off46 t r, k0_off47 t r, k0_off48 t r, k0_off49 t r, k0_off50 t r, k0_off51 t r, k0_off52 t r]

theorem ox4_eq : ∀ (g : Fin k0_t3_loop.trips) t a, ox4 g t a = rowOff ((2 * (1 + g.val)) * 16 + t.val) a := by unfold rowOff; decide +kernel
theorem oo4_eq : ∀ t a b, oo4 t a b = blockOff t.val a b := by unfold blockOff; decide +kernel
theorem row4_lt : ∀ (g : Fin k0_t3_loop.trips) (t : Fin k0_t4_loop.trips), (2 * (1 + g.val)) * 16 + t.val < 512 := by decide +kernel

set_option maxRecDepth 65536 in
/-- The third innermost loop's region is one trip. -/
theorem region4 (g : Fin k0_t3_loop.trips) (v : BitVec 32) (t : Fin k0_t4_loop.trips) :
    k0_t4_body i arg2 harg2 arg3 harg3 arg4 harg4 arg5 harg5 arg6 harg6 arg7 harg7 arg8 harg8 arg9 harg9 arg10 harg10 arg11 arg12 arg13 arg14 v109_r0 v109_r1
      v1 s o0 o1 o2 o3 o4 o5 o6 o7 c (Scalar.ofBits .f32 0x00000000#32) (Scalar.ofBits .f32 0x00000000#32) (Scalar.ofBits .f32 0x3F800000#32) g v t ⟨⟩
    = trip i arg6 arg9 (row4_lt g t) t.isLt s ![o0, o1, o2, o3, o4, o5, o6, o7] :=
  (rfl : _ = tripAt i arg6 arg9 (ox4 g t) (fun a => ox4_eq g t a ▸ rowOff_inb (row4_lt g t) a)
      (oo4 t) (fun a b => oo4_eq t a b ▸ blockOff_inb t.isLt a b) s ![o0, o1, o2, o3, o4, o5, o6, o7]).trans
    (tripAt_eq i arg6 arg9 _ _ s _ (row4_lt g t) t.isLt (ox4_eq g t) (oo4_eq t))

/-- Where trip `t` of the fourth innermost loop reads its strips. -/
def ox5 (g : Fin k0_t3_loop.trips) (t : Fin k0_t5_loop.trips) : Fin 8 → Fin 3 → ℕ :=
  ![k0_off54 g t, k0_off55 g t, k0_off56 g t, k0_off57 g t, k0_off58 g t, k0_off59 g t, k0_off60 g t, k0_off61 g t]
/-- Where it stores them. -/
def oo5 (t : Fin k0_t5_loop.trips) (a : Fin 8) : Fin 8 → Fin 2 → ℕ :=
  let r : BitVec 32 := BitVec.ofNat 32 a
  ![k0_off62 t r, k0_off63 t r, k0_off64 t r, k0_off65 t r, k0_off66 t r, k0_off67 t r, k0_off68 t r, k0_off69 t r]

theorem ox5_eq : ∀ (g : Fin k0_t3_loop.trips) t a, ox5 g t a = rowOff ((2 * (1 + g.val) + 1) * 16 + t.val) a := by unfold rowOff; decide +kernel
theorem oo5_eq : ∀ t a b, oo5 t a b = blockOff t.val a b := by unfold blockOff; decide +kernel
theorem row5_lt : ∀ (g : Fin k0_t3_loop.trips) (t : Fin k0_t5_loop.trips), (2 * (1 + g.val) + 1) * 16 + t.val < 512 := by decide +kernel

set_option maxRecDepth 65536 in
/-- The fourth innermost loop's region is one trip. -/
theorem region5 (g : Fin k0_t3_loop.trips) (v : BitVec 32) (t : Fin k0_t5_loop.trips) :
    k0_t5_body i arg2 harg2 arg3 harg3 arg4 harg4 arg5 harg5 arg6 harg6 arg7 harg7 arg8 harg8 arg9 harg9 arg10 harg10 arg11 arg12 arg13 arg14 v109_r0 v109_r1
      v1 s o0 o1 o2 o3 o4 o5 o6 o7 c (Scalar.ofBits .f32 0x00000000#32) (Scalar.ofBits .f32 0x00000000#32) (Scalar.ofBits .f32 0x3F800000#32) g v t ⟨⟩
    = trip i arg6 arg10 (row5_lt g t) t.isLt s ![o0, o1, o2, o3, o4, o5, o6, o7] :=
  (rfl : _ = tripAt i arg6 arg10 (ox5 g t) (fun a => ox5_eq g t a ▸ rowOff_inb (row5_lt g t) a)
      (oo5 t) (fun a b => oo5_eq t a b ▸ blockOff_inb t.isLt a b) s ![o0, o1, o2, o3, o4, o5, o6, o7]).trans
    (tripAt_eq i arg6 arg10 _ _ s _ (row5_lt g t) t.isLt (ox5_eq g t) (oo5_eq t))

/-- Where trip `t` of the fifth innermost loop reads its strips. -/
def ox7 (g : Fin k0_t6_loop.trips) (t : Fin k0_t7_loop.trips) : Fin 8 → Fin 3 → ℕ :=
  ![k0_off71 g t, k0_off72 g t, k0_off73 g t, k0_off74 g t, k0_off75 g t, k0_off76 g t, k0_off77 g t, k0_off78 g t]
/-- Where it stores them. -/
def oo7 (t : Fin k0_t7_loop.trips) (a : Fin 8) : Fin 8 → Fin 2 → ℕ :=
  let r : BitVec 32 := BitVec.ofNat 32 a
  ![k0_off79 t r, k0_off80 t r, k0_off81 t r, k0_off82 t r, k0_off83 t r, k0_off84 t r, k0_off85 t r, k0_off86 t r]

theorem ox7_eq : ∀ (g : Fin k0_t6_loop.trips) t a, ox7 g t a = rowOff ((2 * (8 + g.val)) * 16 + t.val) a := by unfold rowOff; decide +kernel
theorem oo7_eq : ∀ t a b, oo7 t a b = blockOff t.val a b := by unfold blockOff; decide +kernel
theorem row7_lt : ∀ (g : Fin k0_t6_loop.trips) (t : Fin k0_t7_loop.trips), (2 * (8 + g.val)) * 16 + t.val < 512 := by decide +kernel

set_option maxRecDepth 65536 in
/-- The fifth innermost loop's region is one trip. -/
theorem region7 (g : Fin k0_t6_loop.trips) (v : BitVec 32) (t : Fin k0_t7_loop.trips) :
    k0_t7_body i arg2 harg2 arg3 harg3 arg4 harg4 arg5 harg5 arg6 harg6 arg7 harg7 arg8 harg8 arg9 harg9 arg10 harg10 arg11 arg12 arg13 arg14 v109_r0 v109_r1
      s o0 o1 o2 o3 o4 o5 o6 o7 (Scalar.ofBits .f32 0x00000000#32) (Scalar.ofBits .f32 0x3F800000#32) g v t ⟨⟩
    = trip i arg6 arg9 (row7_lt g t) t.isLt s ![o0, o1, o2, o3, o4, o5, o6, o7] :=
  (rfl : _ = tripAt i arg6 arg9 (ox7 g t) (fun a => ox7_eq g t a ▸ rowOff_inb (row7_lt g t) a)
      (oo7 t) (fun a b => oo7_eq t a b ▸ blockOff_inb t.isLt a b) s ![o0, o1, o2, o3, o4, o5, o6, o7]).trans
    (tripAt_eq i arg6 arg9 _ _ s _ (row7_lt g t) t.isLt (ox7_eq g t) (oo7_eq t))

/-- Where trip `t` of the sixth innermost loop reads its strips. -/
def ox8 (g : Fin k0_t6_loop.trips) (t : Fin k0_t8_loop.trips) : Fin 8 → Fin 3 → ℕ :=
  ![k0_off88 g t, k0_off89 g t, k0_off90 g t, k0_off91 g t, k0_off92 g t, k0_off93 g t, k0_off94 g t, k0_off95 g t]
/-- Where it stores them. -/
def oo8 (t : Fin k0_t8_loop.trips) (a : Fin 8) : Fin 8 → Fin 2 → ℕ :=
  let r : BitVec 32 := BitVec.ofNat 32 a
  ![k0_off96 t r, k0_off97 t r, k0_off98 t r, k0_off99 t r, k0_off100 t r, k0_off101 t r, k0_off102 t r, k0_off103 t r]

theorem ox8_eq : ∀ (g : Fin k0_t6_loop.trips) t a, ox8 g t a = rowOff ((2 * (8 + g.val) + 1) * 16 + t.val) a := by unfold rowOff; decide +kernel
theorem oo8_eq : ∀ t a b, oo8 t a b = blockOff t.val a b := by unfold blockOff; decide +kernel
theorem row8_lt : ∀ (g : Fin k0_t6_loop.trips) (t : Fin k0_t8_loop.trips), (2 * (8 + g.val) + 1) * 16 + t.val < 512 := by decide +kernel

set_option maxRecDepth 65536 in
/-- The sixth innermost loop's region is one trip. -/
theorem region8 (g : Fin k0_t6_loop.trips) (v : BitVec 32) (t : Fin k0_t8_loop.trips) :
    k0_t8_body i arg2 harg2 arg3 harg3 arg4 harg4 arg5 harg5 arg6 harg6 arg7 harg7 arg8 harg8 arg9 harg9 arg10 harg10 arg11 arg12 arg13 arg14 v109_r0 v109_r1
      s o0 o1 o2 o3 o4 o5 o6 o7 (Scalar.ofBits .f32 0x00000000#32) (Scalar.ofBits .f32 0x3F800000#32) g v t ⟨⟩
    = trip i arg6 arg10 (row8_lt g t) t.isLt s ![o0, o1, o2, o3, o4, o5, o6, o7] :=
  (rfl : _ = tripAt i arg6 arg10 (ox8 g t) (fun a => ox8_eq g t a ▸ rowOff_inb (row8_lt g t) a)
      (oo8 t) (fun a b => oo8_eq t a b ▸ blockOff_inb t.isLt a b) s ![o0, o1, o2, o3, o4, o5, o6, o7]).trans
    (tripAt_eq i arg6 arg10 _ _ s _ (row8_lt g t) t.isLt (ox8_eq g t) (oo8_eq t))

end Regions

end Cert.Proof.Encode
-- ==== Proof.Strips.lean ====
/-
  What one trip leaves. The values a trip stores, element by element; the eight rows of the output block it fills; and the
  triple of the trip, which every innermost loop uses: from a block filled up to the trip's rows to a block filled up to
  the next trip's rows.
-/
module

public import proofs.«01_k».proof.Proof.Trip
public import Idealize.ShloMosaic.Lib.SparseCore.Quiescent
public import Idealize.ShloMosaic.Lib.SparseCore.Ops
public import Idealize.ShloMosaic.Lib.Pipeline.Kit
public import Idealize.ShloMosaic.Lib.PointwiseCore
public import Idealize.ShloMosaic.Lib.Writes

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## Values -/

/-- One encoded value: the input times the scale, plus the bin's offset, clamped to `[0, 1]`. -/
def enc (x s o : F .f32) : F .f32 :=
  FloatOps.minimumf (FloatOps.maximumf (FloatOps.addf (FloatOps.mulf x s) o) (Scalar.ofBits .f32 0x00000000#32))
    (Scalar.ofBits .f32 0x3F800000#32)

/-- Lane `l` of a strip stored for a bin is the encoded value of lane `l` of the inputs' strip. -/
theorem clamped_scaled_apply (s o : FVec F S16 .f32) (x : Vec F S1x1x16 .f32) (l : Fin 16) :
    clamped o (scaled s x) (ix2 (n0 := 1) (n1 := 16) 0 l) = enc (x (ix3 (n0 := 1) (n1 := 1) (n2 := 16) 0 0 l)) (s (ix1 l)) (o (ix1 l)) := by
  unfold clamped scaled enc
  pointwise

/-- What the output block of chunk `c` holds at the end, from the staged inputs `X`: row `8 n + a` at lane `l` is the
    value of bin `a` for lane `l` of row `16 c + n` of the inputs, at the scale and the offset of lane `l mod 16`. -/
def blockVal (X : S512x1x128.Idx → F .f32) (s : FVec F S16 .f32) (o : Fin 8 → FVec F S16 .f32) (c : ℕ) (y : S128x128.Idx) : F .f32 :=
  enc (X (ix3 (n0 := 512) (n1 := 1) (n2 := 128) ⟨(c * 16 + (y 0).val / 8) % 512, Nat.mod_lt _ (by decide)⟩ 0 (y 1)))
    (s (ix1 (n0 := 16) ⟨(y 1).val % 16, Nat.mod_lt _ (by decide)⟩))
    (o ⟨(y 0).val % 8, Nat.mod_lt _ (by decide)⟩ (ix1 (n0 := 16) ⟨(y 1).val % 16, Nat.mod_lt _ (by decide)⟩))

theorem blockVal_at (X : S512x1x128.Idx → F .f32) (s : FVec F S16 .f32) (o : Fin 8 → FVec F S16 .f32) {c t : ℕ} (hc : c < 32)
    (ht : t < 16) (a b : Fin 8) (l : Fin 16) (y : S128x128.Idx) (h0 : (y 0).val = 8 * t + a.val) (h1 : (y 1).val = 16 * b.val + l.val) :
    blockVal X s o c y
      = enc (X (ix3 (n0 := 512) (n1 := 1) (n2 := 128) ⟨c * 16 + t, by omega⟩ 0 ⟨16 * b.val + l.val, by omega⟩)) (s (ix1 l)) (o a (ix1 l)) := by
  have ha := a.isLt
  have hl := l.isLt
  have e1 : (⟨(c * 16 + (y 0).val / 8) % 512, Nat.mod_lt _ (by decide)⟩ : Fin 512) = ⟨c * 16 + t, by omega⟩ := Fin.ext (by simp only [h0]; omega)
  have e2 : (y 1 : Fin 128) = ⟨16 * b.val + l.val, by omega⟩ := Fin.ext h1
  have e3 : (⟨(y 1).val % 16, Nat.mod_lt _ (by decide)⟩ : Fin 16) = l := Fin.ext (by simp only [h1]; omega)
  have e4 : (⟨(y 0).val % 8, Nat.mod_lt _ (by decide)⟩ : Fin 8) = a := Fin.ext (by simp only [h0]; omega)
  unfold blockVal
  rw [e1, e3, e4]
  exact congrArg (fun k => enc (X (ix3 (n0 := 512) (n1 := 1) (n2 := 128) ⟨c * 16 + t, by omega⟩ 0 k)) (s (ix1 l)) (o a (ix1 l))) e2

/-- A piece of the block: strip `q` of trip `t`. -/
def piece (p : Fin 8 → Fin 8 → FVec F S1x16 .f32) {t : ℕ} (ht : t < 16) (q : Fin 8 × Fin 8) : View.Piece (Elt F) S128x128 .f32 :=
  ⟨Rect.unit (s := S128x128) (blockOff t q.1 q.2) S1x16.size (blockOff_inb ht q.1 q.2), p q.1 q.2⟩

/-- The read of a row's strip at lane `l` reads the staged inputs at that row and lane. -/
theorem strip_read (xb : Memref sig .scVector .vmem S512x1x128 .f32) (f : xb.view.ty.Contents (Elt F)) {n : ℕ} (hn : n < 512)
    (b : Fin 8) (l : Fin 16) :
    xb.view.readAt (Elt F) (Rect.unit (s := S512x1x128) (rowOff n b) S1x1x16.size (rowOff_inb hn b)).toLoadRect f
        (ix3 (n0 := 1) (n1 := 1) (n2 := 16) 0 0 l)
      = xb.view.read (Elt F) f (ix3 (n0 := 512) (n1 := 1) (n2 := 128) ⟨n, hn⟩ 0 ⟨16 * b.val + l.val, by omega⟩) := by
  rw [View.readAt_apply]
  congr 1
  funext a
  apply Fin.ext
  fin_cases a
  · show n + 1 * 0 = n; omega
  · show 0 + 1 * 0 = 0; omega
  · show 16 * b.val + 1 * l.val = 16 * b.val + l.val; omega

/-- The strips of one trip cover exactly its eight rows. -/
theorem piece_cover (p : Fin 8 → Fin 8 → FVec F S1x16 .f32) {t : ℕ} (ht : t < 16) (y : S128x128.Idx)
    (h : 8 * t ≤ (y 0).val ∧ (y 0).val < 8 * (t + 1)) : ∃ q ∈ strips, y ∈ (piece p ht q).1.set := by
  have h1 : (y 1).val < 128 := (y 1).isLt
  refine ⟨(⟨(y 0).val - 8 * t, by omega⟩, ⟨(y 1).val / 16, by omega⟩), ?_, ?_⟩
  · generalize (⟨(y 0).val - 8 * t, _⟩ : Fin 8) = a
    generalize (⟨(y 1).val / 16, _⟩ : Fin 8) = b
    revert a b; decide
  · refine (Rect.mem_set_unit (inb := blockOff_inb ht _ _)).mpr ?_
    intro k
    fin_cases k
    · show 8 * t + ((y 0).val - 8 * t) ≤ (y 0).val ∧ (y 0).val < 8 * t + ((y 0).val - 8 * t) + 1; omega
    · show 16 * ((y 1).val / 16) ≤ (y 1).val ∧ (y 1).val < 16 * ((y 1).val / 16) + 16; omega

theorem piece_rows (p : Fin 8 → Fin 8 → FVec F S1x16 .f32) {t : ℕ} (ht : t < 16) (y : S128x128.Idx) (q : Fin 8 × Fin 8)
    (h : y ∈ (piece p ht q).1.set) : 8 * t ≤ (y 0).val ∧ (y 0).val < 8 * (t + 1) := by
  have h0 := (Rect.mem_set_unit (inb := blockOff_inb ht q.1 q.2)).mp h 0
  have h0' : 8 * t + q.1.val ≤ (y 0).val ∧ (y 0).val < 8 * t + q.1.val + 1 := h0
  have := q.1.isLt
  omega

/-- After the writes of one trip over a block filled up to the trip's rows, the block is filled up to the next trip's. -/
theorem filled_step (ob : Memref sig .scVector .vmem S128x128 .f32) (g : ob.view.ty.Contents (Elt F))
    (X : S512x1x128.Idx → F .f32) (s : FVec F S16 .f32) (o : Fin 8 → FVec F S16 .f32) (c : ℕ)
    {t : ℕ} (ht : t < 16) (hc : c < 32) (xs : Fin 8 → Vec F S1x1x16 .f32)
    (hxs : ∀ b l, xs b (ix3 (n0 := 1) (n1 := 1) (n2 := 16) 0 0 l)
      = X (ix3 (n0 := 512) (n1 := 1) (n2 := 128) ⟨c * 16 + t, by omega⟩ 0 ⟨16 * b.val + l.val, by omega⟩))
    (hg : ∀ y : S128x128.Idx, (y 0).val < 8 * t → ob.view.read (Elt F) g y = blockVal X s o c y) :
    ∀ y : S128x128.Idx, (y 0).val < 8 * (t + 1) →
      ob.view.read (Elt F) (ob.view.writes (Elt F) g ((strips.map (piece (fun a b => clamped (o a) (scaled s (xs b))) ht)).reverse)) y
        = blockVal X s o c y := by
  intro y hy
  by_cases h : (y 0).val < 8 * t
  · rw [View.read_writes_apply_of_forall_not_mem ob.view g y _ (fun p hp => ?_)]
    · exact hg y h
    · obtain ⟨q, -, rfl⟩ := List.mem_map.mp (List.mem_reverse.mp hp)
      intro hm
      have := (piece_rows _ ht y q hm).1
      omega
  · refine View.read_writes_apply_of_pieces ob.view g (blockVal X s o c) _ (fun p hp x => ?_) y ?_
    · obtain ⟨q, -, rfl⟩ := List.mem_map.mp (List.mem_reverse.mp hp)
      obtain ⟨x0, l, rfl⟩ : ∃ (x0 : Fin 1) (l : Fin 16), x = ix2 (n0 := 1) (n1 := 16) x0 l := ⟨x 0, x 1, eq_ix2 x⟩
      obtain rfl : x0 = 0 := Subsingleton.elim _ _
      show clamped (o q.1) (scaled s (xs q.2)) (ix2 (n0 := 1) (n1 := 16) 0 l) = _
      rw [clamped_scaled_apply, hxs]
      refine (blockVal_at X s o hc ht q.1 q.2 l _ ?_ ?_).symm
      · show 8 * t + q.1.val + 1 * 0 = _; omega
      · show 16 * q.2.val + 1 * l.val = _; omega
    · obtain ⟨q, hq, hm⟩ := piece_cover (fun a b => clamped (o a) (scaled s (xs b))) ht y ⟨by omega, hy⟩
      exact ⟨_, List.mem_reverse.mpr (List.mem_map.mpr ⟨q, hq, rfl⟩), hm⟩

end Cert.Proof.Encode
-- ==== Proof.Setup.lean ====
/-
  The program as the launch theorem of a SparseCore call sees it, and the resources its proof is carried out in. Also how a
  share of an array is dealt to thirty-two tasks.
-/
module

public import proofs.«01_k».proof.Proof.Strips
public import Idealize.ShloMosaic.Lib.Transfers

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the counters of the transfers in flight. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The task at one place of the grid -/

variable (d : Dev nD) (L : grid0.Coords)

abbrev cV (L : grid0.Coords) : Fin τ.nSC := (L 0).castLE hcore0
abbrev jV (L : grid0.Coords) : Fin τ.nSub := (L 1).castLE hsub0
/-- The vector subcore that runs the task. -/
abbrev vt (d : Dev nD) (L : grid0.Coords) : Thread nD τ := V d (cV L) (jV L)
/-- The task's number: twice its subcore plus its core. -/
def wid (L : grid0.Coords) : ℕ := 2 * (L 1).val + (L 0).val

theorem wid_lt : wid L < 32 := by
  have h0 : (L 0).val < 2 := (L 0).isLt
  have h1 : (L 1).val < 16 := (L 1).isLt
  unfold wid; omega

/-- A task's program run on its subcore. -/
abbrev wpT [FloatOps F] {α : Type} (p : TileProg L F α) (Q : α → sProp 𝕄) : sProp 𝕄 :=
  wp frame (wpE (defs₀ (F := F)) 𝒱₀ (vt d L) none) Set.univ p Q

end Cert.Proof.Encode
-- ==== Proof.Walk.lean ====
/-
  The triples of one trip and of an innermost loop: a loop fills its output block with the encoded values of its chunk.
-/
module

public import proofs.«01_k».proof.Proof.Setup
public import Idealize.ShloMosaic.Lib.Tactic
public import Idealize.ShloMosaic.Lib.Scf

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Storing the listed strips leaves the block written with them, the last stored first in the list. -/
theorem wp_putStrips (ob : Memref sig .scVector .vmem S128x128 .f32) (g : Buf (Elt F) (ob.view.loc (vt d L)))
    (p : Fin 8 → Fin 8 → FVec F S1x16 .f32) {t : ℕ} (ht : t < 16) :
    ∀ (l : List (Fin 8 × Fin 8)) (l₀ : List (View.Piece (Elt F) S128x128 .f32)),
      (ob.view.loc (vt d L) ↦[ob.view.set]{fullShare} ob.view.writes (Elt F) g l₀ : sProp 𝕄)
        ⊢ wpT d L (putStrips L ob (blockOff t) (blockOff_inb ht) p l) fun _ =>
          (ob.view.loc (vt d L) ↦[ob.view.set]{fullShare} ob.view.writes (Elt F) g ((l.map (piece p ht)).reverse ++ l₀))
  | [], l₀ => by
    unfold putStrips
    show _ ⊢ wp frame _ Set.univ (pure _) _
    rw [wp_pure]
    iintro H; imodintro; iexact H
  | q :: l, l₀ => by
    have ih := wp_putStrips ob g p ht l (piece p ht q :: l₀)
    unfold putStrips
    iintro H
    iapply (wp_load 𝒱₀ (vt d L) none Set.univ (View.setOn_subset_set ob.view _)) $$ H
    iintro H
    iapply (wp_store_writes 𝒱₀ (vt d L) none Set.univ (View.set_slice_subset ob.view _)) $$ H
    iintro H
    rw [List.map_cons, List.reverse_cons, List.append_assoc]
    iapply ih
    iexact H

/-- The elements row `n`'s strips are read from lie in `A`. -/
def RowIn (xb : Memref sig .scVector .vmem S512x1x128 .f32) (A : Finset xb.view.ty.Idx) (n : ℕ) : Prop :=
  ∀ (hn : n < 512) (b : Fin 8), xb.view.setOn (Rect.unit (s := S512x1x128) (rowOff n b) S1x1x16.size (rowOff_inb hn b)).toLoadRect.set ⊆ A

/-- The eight strips of row `n`, as they are read. -/
def rowStrips (xb : Memref sig .scVector .vmem S512x1x128 .f32) (fx : Buf (Elt F) (xb.view.loc (vt d L))) {n : ℕ} (hn : n < 512) :
    Fin 8 → Vec F S1x1x16 .f32 :=
  let r (b : Fin 8) : Vec F S1x1x16 .f32 :=
    xb.view.readAt (Elt F) (Rect.unit (s := S512x1x128) (rowOff n b) S1x1x16.size (rowOff_inb hn b)).toLoadRect fx
  ![r 0, r 1, r 2, r 3, r 4, r 5, r 6, r 7]

theorem rowStrips_apply (xb : Memref sig .scVector .vmem S512x1x128 .f32) (fx : Buf (Elt F) (xb.view.loc (vt d L))) {n : ℕ} (hn : n < 512)
    (b : Fin 8) (l : Fin 16) : rowStrips d L xb fx hn b (ix3 (n0 := 1) (n1 := 1) (n2 := 16) 0 0 l)
      = xb.view.read (Elt F) fx (ix3 (n0 := 512) (n1 := 1) (n2 := 128) ⟨n, hn⟩ 0 ⟨16 * b.val + l.val, by omega⟩) := by
  rw [← strip_read xb fx hn b l]
  fin_cases b <;> rfl

/-- Trip `t` takes a block filled below row `8 t` to one filled below row `8 (t + 1)`, the inputs as they were. -/
theorem wp_trip (xb : Memref sig .scVector .vmem S512x1x128 .f32) (ob : Memref sig .scVector .vmem S128x128 .f32)
    (A : Finset (Idx (xb.view.loc (vt d L)))) (q : PosShare TreeShare) (fx : Buf (Elt F) (xb.view.loc (vt d L)))
    (s : FVec F S16 .f32) (o : Fin 8 → FVec F S16 .f32) {c t : ℕ} (hc : c < 32) (ht : t < 16) (hn : c * 16 + t < 512)
    (hA : RowIn xb A (c * 16 + t)) (g : Buf (Elt F) (ob.view.loc (vt d L)))
    (hg : ∀ y : S128x128.Idx, (y 0).val < 8 * t → ob.view.read (Elt F) g y = blockVal (xb.view.read (Elt F) fx) s o c y) :
    iprop((xb.view.loc (vt d L) ↦[A]{q} fx) ∗ (ob.view.loc (vt d L) ↦[ob.view.set]{fullShare} g) : sProp 𝕄)
      ⊢ wpT d L (trip L xb ob hn ht s o) fun _ => iprop((xb.view.loc (vt d L) ↦[A]{q} fx)
          ∗ ∃ g', ⌜∀ y : S128x128.Idx, (y 0).val < 8 * (t + 1) → ob.view.read (Elt F) g' y = blockVal (xb.view.read (Elt F) fx) s o c y⌝
            ∗ ob.view.loc (vt d L) ↦[ob.view.set]{fullShare} g') := by
  unfold trip tripAt getStrip
  iintro ⟨Hx, Ho⟩
  iapply (wp_load 𝒱₀ (vt d L) none Set.univ (hA hn 0)) $$ Hx
  iintro Hx
  iapply (wp_load 𝒱₀ (vt d L) none Set.univ (hA hn 1)) $$ Hx
  iintro Hx
  iapply (wp_load 𝒱₀ (vt d L) none Set.univ (hA hn 2)) $$ Hx
  iintro Hx
  iapply (wp_load 𝒱₀ (vt d L) none Set.univ (hA hn 3)) $$ Hx
  iintro Hx
  iapply (wp_load 𝒱₀ (vt d L) none Set.univ (hA hn 4)) $$ Hx
  iintro Hx
  iapply (wp_load 𝒱₀ (vt d L) none Set.univ (hA hn 5)) $$ Hx
  iintro Hx
  iapply (wp_load 𝒱₀ (vt d L) none Set.univ (hA hn 6)) $$ Hx
  iintro Hx
  iapply (wp_load 𝒱₀ (vt d L) none Set.univ (hA hn 7)) $$ Hx
  iintro Hx
  iapply (wp_wand_r frame _ Set.univ)
  isplitl [Ho]
  · iapply (wp_putStrips d L ob g (fun a b => clamped (o a) (scaled s (rowStrips d L xb fx hn b))) ht strips []); iexact Ho
  · iintro %u Ho
    rw [List.append_nil]
    isplitl [Hx]; · iexact Hx
    iexists (ob.view.writes (Elt F) g ((strips.map (piece (fun a b => clamped (o a) (scaled s (rowStrips d L xb fx hn b))) ht)).reverse))
    isplitr
    · ipureintro
      exact filled_step ob g _ s o c ht hc (rowStrips d L xb fx hn) (rowStrips_apply d L xb fx hn) hg
    · iexact Ho

/-- An innermost loop over the trips of chunk `c` leaves the output block holding the chunk's encoded values. -/
theorem wp_block (xb : Memref sig .scVector .vmem S512x1x128 .f32) (ob : Memref sig .scVector .vmem S128x128 .f32)
    (A : Finset (Idx (xb.view.loc (vt d L)))) (q : PosShare TreeShare) (fx : Buf (Elt F) (xb.view.loc (vt d L)))
    (s : FVec F S16 .f32) (o : Fin 8 → FVec F S16 .f32) {c : ℕ} (hc : c < 32)
    (hA : ∀ t < 16, RowIn xb A (c * 16 + t))
    (lp : Scf.Loop 32) (hlp : lp.trips = 16) (hok : lp.OK) (body : Fin lp.trips → Unit → TileProg L F Unit)
    (hbody : ∀ t, ∃ (hn : c * 16 + t.val < 512) (ht : t.val < 16), body t ⟨⟩ = trip L xb ob hn ht s o) :
    iprop((xb.view.loc (vt d L) ↦[A]{q} fx) ∗ ∃ g, ob.view.loc (vt d L) ↦[ob.view.set]{fullShare} g : sProp 𝕄)
      ⊢ wpT d L (Scf.Loop.for lp hok ⟨⟩ body) fun _ => iprop((xb.view.loc (vt d L) ↦[A]{q} fx)
          ∗ ∃ g', ⌜∀ y : S128x128.Idx, ob.view.read (Elt F) g' y = blockVal (xb.view.read (Elt F) fx) s o c y⌝
            ∗ ob.view.loc (vt d L) ↦[ob.view.set]{fullShare} g') := by
  have hstep : ∀ (k : Fin lp.trips) (acc : Unit),
      iprop((xb.view.loc (vt d L) ↦[A]{q} fx)
          ∗ ∃ g', ⌜∀ y : S128x128.Idx, (y 0).val < 8 * k.val → ob.view.read (Elt F) g' y = blockVal (xb.view.read (Elt F) fx) s o c y⌝
            ∗ ob.view.loc (vt d L) ↦[ob.view.set]{fullShare} g' : sProp 𝕄)
        ⊢ wpT d L (body k acc) fun _ => iprop((xb.view.loc (vt d L) ↦[A]{q} fx)
          ∗ ∃ g', ⌜∀ y : S128x128.Idx, (y 0).val < 8 * (k.val + 1) → ob.view.read (Elt F) g' y = blockVal (xb.view.read (Elt F) fx) s o c y⌝
            ∗ ob.view.loc (vt d L) ↦[ob.view.set]{fullShare} g') := by
    intro k acc
    obtain ⟨hn, ht, e⟩ := hbody k
    rw [show body k acc = trip L xb ob hn ht s o from e]
    iintro ⟨Hx, %g, %hg, Ho⟩
    iapply (wp_trip d L xb ob A q fx s o hc ht hn (hA k.val ht) g hg)
    isplitl [Hx] <;> iassumption
  iintro ⟨Hx, %g, Ho⟩
  iapply (Scf.wp_for frame (wpE (defs₀ (F := F)) 𝒱₀ (vt d L) none) Set.univ lp.lb lp.ub lp.st hok ⟨⟩ body
    (fun n _ => iprop((xb.view.loc (vt d L) ↦[A]{q} fx)
          ∗ ∃ g', ⌜∀ y : S128x128.Idx, (y 0).val < 8 * n → ob.view.read (Elt F) g' y = blockVal (xb.view.read (Elt F) fx) s o c y⌝
            ∗ ob.view.loc (vt d L) ↦[ob.view.set]{fullShare} g')) hstep)
  isplitl [Hx Ho]
  · isplitl [Hx]; · iexact Hx
    iexists g
    isplitr
    · ipureintro; intro y hy; omega
    · iexact Ho
  · iintro %acc ⟨Hx, %g', %hg', Ho⟩
    isplitl [Hx]; · iexact Hx
    iexists g'
    isplitr
    · ipureintro
      intro y
      have hy : (y 0).val < 128 := (y 0).isLt
      refine hg' y ?_
      rw [show Scf.trips lp.lb lp.ub lp.st = 16 from hlp]
      omega
    · iexact Ho

end Cert.Proof.Encode
-- ==== Proof.Chunk.lean ====
/-
  The output, chunk by chunk. The rows of one chunk, the values the task leaves in them, and the triple of one turn: wait until
  the block's last copy has landed, fill the block, start the block's copy to the chunk's rows.
-/
module

public import proofs.«01_k».proof.Proof.Walk
public import Idealize.ShloMosaic.Lib.SparseCore.Stream

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "oV" => (Memref.whole Cert.KernelIdeal.main_v18_scv : Memref Cert.KernelIdeal.sig Kind.scVector Space.hbm Cert.KernelIdeal.S131072x128 EltTy.f32)
local notation "xB" => (Memref.whole Cert.KernelIdeal.cc0_scratch0 : Memref Cert.KernelIdeal.sig Kind.scVector Space.vmem Cert.KernelIdeal.S512x1x128 EltTy.f32)

variable (d : Dev nD) (L : grid0.Coords)

/-! ## Rows of the output -/

/-- The rows of chunks `a` to `b`, a chunk being 128 rows. -/
def Rows (a b : ℕ) : Finset S131072x128.Idx := Finset.univ.filter fun y => 128 * a ≤ (y 0).val ∧ (y 0).val < 128 * b

theorem mem_Rows {a b : ℕ} {y : S131072x128.Idx} : y ∈ Rows a b ↔ 128 * a ≤ (y 0).val ∧ (y 0).val < 128 * b := by
  simp [Rows]

theorem Rows_union {a b c : ℕ} (h : a ≤ b) (h' : b ≤ c) : Rows a c = Rows a b ∪ Rows b c := by
  ext y; rw [Finset.mem_union, mem_Rows, mem_Rows, mem_Rows]; omega

theorem Rows_disjoint {a b c d : ℕ} (h : b ≤ c) : Disjoint (Rows a b) (Rows c d) := by
  rw [Finset.disjoint_left]; intro y h1 h2; rw [mem_Rows] at h1 h2; omega

theorem Rows_self (a : ℕ) : Rows a a = ∅ := by
  rw [Finset.eq_empty_iff_forall_notMem]; intro y h; rw [mem_Rows] at h; omega

/-- The rectangle of 128 whole rows from row `128 k` on. -/
theorem rect_rows {off : Fin 2 → ℕ} {inb : ∀ a, off a + S128x128.size a ≤ S131072x128.size a} {k : ℕ} (h : off = ![128 * k, 0]) :
    ((oV).slice (Rect.unit (s := S131072x128) off S128x128.size inb) (fun _ => rfl)).view.set = Rows k (k + 1) := by
  subst h
  show ((View.whole (main_v18_scv : Ref sig .scVector)).slice _).set = _
  rw [View.set_slice]
  refine Finset.map_refl.trans ?_
  ext y
  rw [Rect.mem_set_unit, mem_Rows]
  have h1 : (y 1).val < 128 := (y 1).isLt
  constructor
  · intro h
    have h0 : 128 * k ≤ (y 0).val ∧ (y 0).val < 128 * k + 128 := h 0
    omega
  · intro h a
    fin_cases a
    · show 128 * k ≤ (y 0).val ∧ (y 0).val < 128 * k + 128; omega
    · show 0 ≤ (y 1).val ∧ (y 1).val < 0 + 128; omega

/-! ## What the tasks leave -/

/-- The call's result: row `r` belongs to task `r / 4096`, which serves feature `w / 2` and the bins of half `w mod 2`; within
    the task, row `8 n + a` has bin `a` of the inputs' row `n`. -/
def outVal (X : S1024x8x128.Idx → F .f32) (SC NO : S32x128.Idx → F .f32) (y : S131072x128.Idx) : F .f32 :=
  have h0 : (y 0).val < 131072 := (y 0).isLt
  have h1 : (y 1).val < 128 := (y 1).isLt
  enc (X (ix3 (n0 := 1024) (n1 := 8) (n2 := 128) ⟨(y 0).val / 65536 * 512 + (y 0).val % 4096 / 8, by omega⟩ ⟨(y 0).val / 8192 % 8, by omega⟩ (y 1)))
    (SC (ix2 (n0 := 32) (n1 := 128) ⟨(y 0).val / 4096, by omega⟩ ⟨(y 1).val % 16, by omega⟩))
    (NO (ix2 (n0 := 32) (n1 := 128) ⟨(y 0).val / 4096, by omega⟩ ⟨16 * ((y 0).val % 8) + (y 1).val % 16, by omega⟩))

/-- The inputs the task stages: its feature's slab. -/
def stagedX (X : S1024x8x128.Idx → F .f32) (j : S512x1x128.Idx) : F .f32 :=
  have h0 : (L 1).val < 16 := (L 1).isLt
  have h1 : (j 0).val < 512 := (j 0).isLt
  X (ix3 (n0 := 1024) (n1 := 8) (n2 := 128) ⟨(L 1).val / 8 * 512 + (j 0).val, by omega⟩ ⟨(L 1).val % 8, by omega⟩ (j 2))

/-- The task's scale, -/
def laneS (SC : S32x128.Idx → F .f32) : FVec F S16 .f32 := fun l =>
  have h : (l 0).val < 16 := (l 0).isLt
  SC (ix2 (n0 := 32) (n1 := 128) ⟨wid L, wid_lt L⟩ ⟨(l 0).val, by omega⟩)

/-- and its offsets, bin by bin. -/
def laneO (NO : S32x128.Idx → F .f32) : Fin 8 → FVec F S16 .f32 := fun a l =>
  have h : (l 0).val < 16 := (l 0).isLt
  NO (ix2 (n0 := 32) (n1 := 128) ⟨wid L, wid_lt L⟩ ⟨16 * a.val + (l 0).val, by omega⟩)

theorem enc_congr {x x' s s' o o' : F .f32} (hx : x = x') (hs : s = s') (ho : o = o') : enc x s o = enc x' s' o' := by
  rw [hx, hs, ho]

/-- A block filled for chunk `c` holds what the result has in the chunk's rows. -/
theorem blockVal_eq_outVal (X : S1024x8x128.Idx → F .f32) (SC NO : S32x128.Idx → F .f32) {c k : ℕ} (hc : c < 32) (hk : k = 32 * wid L + c)
    (x : S128x128.Idx) (y : S131072x128.Idx) (h0 : (y 0).val = 128 * k + (x 0).val) (h1 : (y 1).val = (x 1).val) :
    blockVal (stagedX L X) (laneS L SC) (laneO L NO) c x = outVal X SC NO y := by
  have hx0 : (x 0).val < 128 := (x 0).isLt
  have hx1 : (x 1).val < 128 := (x 1).isLt
  have hL0 : (L 0).val < 2 := (L 0).isLt
  have hL1 : (L 1).val < 16 := (L 1).isLt
  have hw := wid_lt L
  have hwd : wid L = 2 * (L 1).val + (L 0).val := rfl
  subst hk
  unfold blockVal outVal stagedX laneS laneO
  refine enc_congr (congrArg X ?_) (congrArg SC ?_) (congrArg NO ?_)
  · funext a; apply Fin.ext
    fin_cases a
    · show (L 1).val / 8 * 512 + (c * 16 + (x 0).val / 8) % 512 = (y 0).val / 65536 * 512 + (y 0).val % 4096 / 8
      omega
    · show (L 1).val % 8 = (y 0).val / 8192 % 8
      omega
    · exact h1.symm
  · funext a; apply Fin.ext
    fin_cases a
    · show wid L = (y 0).val / 4096
      omega
    · show (x 1).val % 16 = (y 1).val % 16
      omega
  · funext a; apply Fin.ext
    fin_cases a
    · show wid L = (y 0).val / 4096
      omega
    · show 16 * ((x 0).val % 8) + (x 1).val % 16 = 16 * ((y 0).val % 8) + (y 1).val % 16
      omega

/-! ## One turn -/

abbrev oLoc (d : Dev nD) : Loc nD τ sig := (SparseCore.T d).loc main_v18

/-- A program followed by another. -/
theorem wpT_bind {α β : Type} (p : TileProg L F α) (k : α → TileProg L F β) (Q : β → sProp 𝕄) :
    wpT d L p (fun a => wpT d L (k a) Q) ⊢ wpT d L (p >>= k) Q :=
  Entails.of_eq (wp_bind frame (wpE (defs₀ (F := F)) 𝒱₀ (vt d L) none) Set.univ p k Q).symm

/-- What the copy of a block to chunk `k`'s rows brings back: the rows, holding the result's values, and the block. -/
abbrev Landed (T : S131072x128.Idx → F .f32) (k : ℕ) (ob : Memref sig .scVector .vmem S128x128 .f32) : sProp 𝕄 :=
  iprop((oLoc d ↦[Rows k (k + 1)]{fullShare} (T : Buf (Elt F) (oLoc d))) ∗ ∃ g, ob.view.loc (vt d L) ↦[ob.view.set]{fullShare} g)

/-- A copy of a block to 128 rows of the output, on semaphore `sm`, in flight. -/
abbrev Flying (sm : DmaSem sig) (R : sProp 𝕄) : sProp 𝕄 :=
  Transfers.Flight countersEmb (vt d L) (.dma sm) (default : HIx 1)
    ((oV).slice (Rect.unit (s := S131072x128) ![0, 0] S128x128.size inb_S131072x128_S128x128_0_0) (fun _ => rfl)).view.dmaCredit R

/-- What a filled block's copy lands in its rows is the result's values. -/
theorem landed_eq (T : S131072x128.Idx → F .f32) {k : ℕ} {off : Fin 2 → ℕ} {inb : ∀ a, off a + S128x128.size a ≤ S131072x128.size a}
    (hoff : off = ![128 * k, 0]) (w : S128x128.Idx → F .f32)
    (hw : ∀ (x : S128x128.Idx) (y : S131072x128.Idx), (y 0).val = 128 * k + (x 0).val → (y 1).val = (x 1).val → w x = T y)
    (fd : Buf (Elt F) (oLoc d)) :
    ((((oV).slice (Rect.unit (s := S131072x128) off S128x128.size inb) (fun _ => rfl)).view.loc (vt d L)
        ↦[((oV).slice (Rect.unit (s := S131072x128) off S128x128.size inb) (fun _ => rfl)).view.set]{fullShare}
          ((oV).slice (Rect.unit (s := S131072x128) off S128x128.size inb) (fun _ => rfl)).view.write (Elt F) fd w Finset.univ : sProp 𝕄))
      = (oLoc d ↦[Rows k (k + 1)]{fullShare} (T : Buf (Elt F) (oLoc d))) := by
  rw [← rect_rows (inb := inb) hoff]
  refine pointsTo_congr fun i hi => ?_
  obtain ⟨x, -, rfl⟩ := Finset.mem_map.mp hi
  rw [View.write_emb_of_mem _ _ (Finset.mem_univ _)]
  subst hoff
  refine (cast_eq _ _).trans (hw x _ ?_ ?_)
  · show 128 * k + 1 * (x 0).val = _; omega
  · show 0 + 1 * (x 1).val = _; omega

theorem rows_credit {off : Fin 2 → ℕ} {inb : ∀ a, off a + S128x128.size a ≤ S131072x128.size a} :
    ((oV).slice (Rect.unit (s := S131072x128) off S128x128.size inb) (fun _ => rfl)).view.dmaCredit
      = ((oV).slice (Rect.unit (s := S131072x128) ![0, 0] S128x128.size inb_S131072x128_S128x128_0_0) (fun _ => rfl)).view.dmaCredit := rfl

/-- Filling a block for chunk `c` and starting its copy to the chunk's rows: the copy is in flight, to land the result's
    values. -/
theorem wp_fill (X : S1024x8x128.Idx → F .f32) (SC NO : S32x128.Idx → F .f32)
    (ob : Memref sig .scVector .vmem S128x128 .f32) (hob : ob.view.WordExact) (sm : DmaSem sig)
    (A : Finset S512x1x128.Idx) {c k : ℕ} (hc : c < 32) (hk : k = 32 * wid L + c) (hA : ∀ t < 16, RowIn xB A (c * 16 + t))
    (lp : Scf.Loop 32) (hlp : lp.trips = 16) (hok : lp.OK) (body : Fin lp.trips → Unit → TileProg L F Unit)
    (hbody : ∀ t, ∃ (hn : c * 16 + t.val < 512) (ht : t.val < 16), body t ⟨⟩ = trip L xB ob hn ht (laneS L SC) (laneO L NO))
    {off : Fin 2 → ℕ} {inb : ∀ a, off a + S128x128.size a ≤ S131072x128.size a} (hoff : off = ![128 * k, 0])
    {h1 h2} {α : Type} (kk : PUnit → TileProg L F α) (Q : α → sProp 𝕄) (fo : Buf (Elt F) (oLoc d)) :
    iprop(((xB).view.loc (vt d L) ↦[A]{fullShare} (stagedX L X : Buf (Elt F) ((xB).view.loc (vt d L))))
        ∗ (∃ g, ob.view.loc (vt d L) ↦[ob.view.set]{fullShare} g)
        ∗ (oLoc d ↦[Rows k (k + 1)]{fullShare} fo) ∗ semVal (vt d L, .dma sm) 0) ⊢
      iprop((iprop(((xB).view.loc (vt d L) ↦[A]{fullShare} (stagedX L X : Buf (Elt F) ((xB).view.loc (vt d L))))
          ∗ Flying d L sm (Landed d L (outVal X SC NO) k ob)) -∗ wpT d L (kk ⟨⟩) Q)
        -∗ wpT d L (do
            Scf.Loop.for lp hok ⟨⟩ body
            Prog.op (.enqueueDma ob (.here ((oV).slice (Rect.unit (s := S131072x128) off S128x128.size inb) (fun _ => rfl)))
              (.dma sm) hob h1 h2) kk) Q) := by
  iintro ⟨Hx, Hob, Ho, Hs⟩ HK
  iapply (wpT_bind d L)
  iapply (wp_wand_r frame _ Set.univ)
  isplitl [Hx Hob]
  · iapply (wp_block d L xB ob A fullShare (stagedX L X) (laneS L SC) (laneO L NO) hc hA lp hlp hok body hbody)
    isplitl [Hx] <;> iassumption
  iintro %u ⟨Hx, %g, %hg, Hob⟩
  ihave Ho' := (Entails.of_eq (show (oLoc d ↦[Rows k (k + 1)]{fullShare} fo : sProp 𝕄)
    = (((oV).slice (Rect.unit (s := S131072x128) off S128x128.size inb) (fun _ => rfl)).view.loc (vt d L)
        ↦[((oV).slice (Rect.unit (s := S131072x128) off S128x128.size inb) (fun _ => rfl)).view.set]{fullShare} fo) by
      rw [rect_rows hoff])) $$ Ho
  iapply (Transfers.wp_dmaLocal countersEmb 𝒱₀ (vt d L) none (default : HIx 1) _ rfl (View.amount_pos _ _ (show 0 < S128x128.numel by decide))
    (Finset.Subset.refl _)) $$ [Hob Ho' Hs]
  · isplitl [Hob]; · iexact Hob
    isplitl [Ho'] <;> iassumption
  iintro Hfl
  iapply HK
  isplitl [Hx]; · iexact Hx
  iapply (Transfers.Flight_mono countersEmb (vt d L) (D := _) (D' := Landed d L (outVal X SC NO) k ob) ?_) $$ Hfl
  iintro ⟨Ho, Hob⟩
  isplitl [Ho]
  · iapply (Entails.of_eq (landed_eq d L (outVal X SC NO) hoff _ (fun x y h0 h1 => ?_) fo)) $$ Ho
    refine (hg x).trans ?_
    exact blockVal_eq_outVal L X SC NO hc hk x y h0 h1
  · iexists g; iexact Hob

end Cert.Proof.Encode
-- ==== Proof.Fetch.lean ====
/-
  The task's fetches. The feature's slab of the inputs comes in two halves, each on a semaphore of its own; the task's row of
  the scales and its row of the offsets each come by a copy awaited at once. Then the first half is awaited and the scale and
  the eight offsets are read.
-/
module

public import proofs.«01_k».proof.Proof.Chunk

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v17_scv : Memref Cert.KernelIdeal.sig Kind.scVector Space.hbm Cert.KernelIdeal.S1024x8x128 EltTy.f32)
local notation "sV" => (Memref.whole Cert.KernelIdeal.main_v10_scv : Memref Cert.KernelIdeal.sig Kind.scVector Space.hbm Cert.KernelIdeal.S32x128 EltTy.f32)
local notation "nV" => (Memref.whole Cert.KernelIdeal.main_v14_scv : Memref Cert.KernelIdeal.sig Kind.scVector Space.hbm Cert.KernelIdeal.S32x128 EltTy.f32)
local notation "oV" => (Memref.whole Cert.KernelIdeal.main_v18_scv : Memref Cert.KernelIdeal.sig Kind.scVector Space.hbm Cert.KernelIdeal.S131072x128 EltTy.f32)
local notation "xB" => (Memref.whole Cert.KernelIdeal.cc0_scratch0 : Memref Cert.KernelIdeal.sig Kind.scVector Space.vmem Cert.KernelIdeal.S512x1x128 EltTy.f32)
local notation "sB" => (Memref.whole Cert.KernelIdeal.cc0_scratch1 : Memref Cert.KernelIdeal.sig Kind.scVector Space.vmem Cert.KernelIdeal.S1x128 EltTy.f32)
local notation "nB" => (Memref.whole Cert.KernelIdeal.cc0_scratch2 : Memref Cert.KernelIdeal.sig Kind.scVector Space.vmem Cert.KernelIdeal.S1x128 EltTy.f32)
local notation "ob0" => (Memref.whole Cert.KernelIdeal.cc0_scratch3 : Memref Cert.KernelIdeal.sig Kind.scVector Space.vmem Cert.KernelIdeal.S128x128 EltTy.f32)
local notation "ob1" => (Memref.whole Cert.KernelIdeal.cc0_scratch4 : Memref Cert.KernelIdeal.sig Kind.scVector Space.vmem Cert.KernelIdeal.S128x128 EltTy.f32)

variable (d : Dev nD) (L : grid0.Coords)

abbrev xLoc (d : Dev nD) : Loc nD τ sig := (SparseCore.T d).loc main_v17
abbrev sLoc (d : Dev nD) : Loc nD τ sig := (SparseCore.T d).loc main_v10
abbrev nLoc (d : Dev nD) : Loc nD τ sig := (SparseCore.T d).loc main_v14

theorem wpT_ret {α : Type} (a : α) (Q : α → sProp 𝕄) : Q a ⊢ wpT d L (Prog.ret a) Q := by
  show _ ⊢ wp frame _ Set.univ (Prog.ret a) Q
  rw [wp_ret]
  iintro H; imodintro; iexact H

/-! ## Where the copies read -/

theorem off1_eq : ∀ L : grid0.Coords, k0_off1 L = ![(L 1).val / 8 * 512, (L 1).val % 8, 0] := by decide +kernel
theorem off2_eq : ∀ L : grid0.Coords, k0_off2 L = ![(L 1).val / 8 * 512 + 256, (L 1).val % 8, 0] := by decide +kernel
theorem off3_eq : ∀ L : grid0.Coords, k0_off3 L = ![wid L, 0] := by unfold wid; decide +kernel

/-! ## The halves of the staged inputs -/

/-- Rows `a` to `b` of the staged inputs. -/
def XRows (a b : ℕ) : Finset S512x1x128.Idx := Finset.univ.filter fun y => a ≤ (y 0).val ∧ (y 0).val < b

theorem mem_XRows {a b : ℕ} {y : S512x1x128.Idx} : y ∈ XRows a b ↔ a ≤ (y 0).val ∧ (y 0).val < b := by simp [XRows]

theorem XRows_univ : (Finset.univ : Finset S512x1x128.Idx) = XRows 0 256 ∪ XRows 256 512 := by
  ext y
  have h : (y 0).val < 512 := (y 0).isLt
  rw [Finset.mem_union, mem_XRows, mem_XRows]
  simp only [Finset.mem_univ, true_iff]
  omega

theorem XRows_disjoint : Disjoint (XRows 0 256) (XRows 256 512) := by
  rw [Finset.disjoint_left]; intro y h1 h2; rw [mem_XRows] at h1 h2; omega

/-- A half, as the copies name it, is its rows. -/
theorem half_set {o : ℕ} {inb : ∀ a, (![o, 0, 0] : Fin 3 → ℕ) a + S256x1x128.size a ≤ S512x1x128.size a} :
    ((xB).slice (Rect.unit (s := S512x1x128) ![o, 0, 0] S256x1x128.size inb) (fun _ => rfl)).view.set = XRows o (o + 256) := by
  show ((View.whole (cc0_scratch0 : Ref sig .scVector)).slice _).set = _
  rw [View.set_slice]
  refine Finset.map_refl.trans ?_
  ext y
  rw [Rect.mem_set_unit, mem_XRows]
  have h1 : (y 1).val < 1 := (y 1).isLt
  have h2 : (y 2).val < 128 := (y 2).isLt
  constructor
  · intro h; exact h 0
  · intro h a
    fin_cases a
    · exact h
    · show 0 ≤ (y 1).val ∧ (y 1).val < 0 + 1; omega
    · show 0 ≤ (y 2).val ∧ (y 2).val < 0 + 128; omega

theorem rowIn_XRows {a b n : ℕ} (ha : a ≤ n) (hb : n < b) : RowIn xB (XRows a b) n := by
  intro hn k
  refine (show _ = (Rect.unit (s := S512x1x128) (rowOff n k) S1x1x16.size (rowOff_inb hn k)).set from Finset.map_refl).le.trans ?_
  intro y hy
  have h0 : n ≤ (y 0).val ∧ (y 0).val < n + 1 := Rect.mem_set_unit.mp hy 0
  rw [mem_XRows]; omega

/-- What a half's copy lands is the half's rows of the staged slab. -/
theorem half_landed (X : S1024x8x128.Idx → F .f32) {o : ℕ} {inb : ∀ a, (![o, 0, 0] : Fin 3 → ℕ) a + S256x1x128.size a ≤ S512x1x128.size a}
    {off : Fin 3 → ℕ} {inb' : ∀ a, off a + S256x1x128.size a ≤ S1024x8x128.size a} (hoff : off = ![(L 1).val / 8 * 512 + o, (L 1).val % 8, 0])
    (fd : Buf (Elt F) ((xB).view.loc (vt d L))) :
    (((xB).view.loc (vt d L) ↦[XRows o (o + 256)]{fullShare}
        ((xB).slice (Rect.unit (s := S512x1x128) ![o, 0, 0] S256x1x128.size inb) (fun _ => rfl)).view.write (Elt F) fd
          (((xV).slice (Rect.unit (s := S1024x8x128) off S256x1x128.size inb') (fun _ => rfl)).view.read (Elt F) (X : Buf (Elt F) (xLoc d))) Finset.univ : sProp 𝕄))
      = ((xB).view.loc (vt d L) ↦[XRows o (o + 256)]{fullShare} (stagedX L X : Buf (Elt F) ((xB).view.loc (vt d L)))) := by
  refine pointsTo_congr fun i hi => ?_
  have hi : i ∈ ((xB).slice (Rect.unit (s := S512x1x128) ![o, 0, 0] S256x1x128.size inb) (fun _ => rfl)).view.set := by
    rw [half_set]; exact hi
  obtain ⟨x, -, rfl⟩ := Finset.mem_map.mp hi
  rw [View.write_emb_of_mem _ _ (Finset.mem_univ _)]
  subst hoff
  refine (cast_eq _ _).trans ((cast_eq _ _).trans (congrArg X ?_))
  have hx1 : (x 1).val < 1 := (x 1).isLt
  funext a; apply Fin.ext
  fin_cases a
  · show (L 1).val / 8 * 512 + o + 1 * (x 0).val = (L 1).val / 8 * 512 + (o + 1 * (x 0).val); omega
  · show (L 1).val % 8 + 1 * (x 1).val = (L 1).val % 8; omega
  · show 0 + 1 * (x 2).val = 0 + 1 * (x 2).val; rfl

/-- The task's row of a small operand. -/
def stagedRow (SC : S32x128.Idx → F .f32) (j : S1x128.Idx) : F .f32 := SC (ix2 (n0 := 32) (n1 := 128) ⟨wid L, wid_lt L⟩ (j 1))

theorem stagedRow_read (SC : S32x128.Idx → F .f32) {off : Fin 2 → ℕ} {inb : ∀ a, off a + S1x128.size a ≤ S32x128.size a} (hoff : off = ![wid L, 0]) :
    ((sV).slice (Rect.unit (s := S32x128) off S1x128.size inb) (fun _ => rfl)).view.read (Elt F) SC = stagedRow L SC := by
  subst hoff
  funext x
  refine (cast_eq _ _).trans (congrArg SC ?_)
  have hx0 : (x 0).val < 1 := (x 0).isLt
  funext a; apply Fin.ext
  fin_cases a
  · show wid L + 1 * (x 0).val = wid L; omega
  · show 0 + 1 * (x 1).val = (x 1).val; omega

theorem stagedRow_read' (SC : S32x128.Idx → F .f32) {off : Fin 2 → ℕ} {inb : ∀ a, off a + S1x128.size a ≤ S32x128.size a} (hoff : off = ![wid L, 0]) :
    ((nV).slice (Rect.unit (s := S32x128) off S1x128.size inb) (fun _ => rfl)).view.read (Elt F) SC = stagedRow L SC := stagedRow_read L SC hoff

/-! ## The fetches -/

/-- The waits recorded since `W` are all of the task's own copies. -/
def OwnWaits (W W' : Waits sig (HIx 1)) : Prop := ∀ p ∈ W', p ∈ W ∨ p.2 = none

theorem OwnWaits.refl (W : Waits sig (HIx 1)) : OwnWaits W W := fun _ h => .inl h
theorem OwnWaits.insert {W W' : Waits sig (HIx 1)} (h : OwnWaits W W') (sm : SemLoc sig) : OwnWaits W (insert (sm, (default : HIx 1)) W') := by
  intro p hp
  rcases Finset.mem_insert.mp hp with rfl | hp
  · exact .inr rfl
  · exact h p hp

/-- The two halves of the staged inputs, as the copies name them. -/
abbrev xHalf0 : Memref sig .scVector .vmem S256x1x128 .f32 :=
  (xB).slice (Rect.unit (s := S512x1x128) ![0, 0, 0] S256x1x128.size inb_S512x1x128_S256x1x128_0_0_0) (fun _ => rfl)
abbrev xHalf1 : Memref sig .scVector .vmem S256x1x128 .f32 :=
  (xB).slice (Rect.unit (s := S512x1x128) ![256, 0, 0] S256x1x128.size inb_S512x1x128_S256x1x128_256_0_0) (fun _ => rfl)

/-- The staged slab's rows `a` to `b`, held. -/
abbrev Staged (X : S1024x8x128.Idx → F .f32) (a b : ℕ) : sProp 𝕄 :=
  (xB).view.loc (vt d L) ↦[XRows a b]{fullShare} (stagedX L X : Buf (Elt F) ((xB).view.loc (vt d L)))

set_option maxHeartbeats 1000000 in
/-- The fetches: the slab's halves in flight, the scales' row and the offsets' row landed. -/
theorem wp_fetch (X : S1024x8x128.Idx → F .f32) (SC NO : S32x128.Idx → F .f32) (q : PosShare TreeShare)
    (O : CellTallies nD τ sig (HIx 1)) (W : Waits sig (HIx 1)) (v35 v37 v38 c0 : BitVec 32) :
    iprop(Transfers.MayWaits (vt d L) (default : HIx 1) O
        ∗ (xLoc d ↦{q} (X : Buf (Elt F) (xLoc d))) ∗ (sLoc d ↦{q} (SC : Buf (Elt F) (sLoc d))) ∗ (nLoc d ↦{q} (NO : Buf (Elt F) (nLoc d)))
        ∗ (∃ f, (xB).view.loc (vt d L) ↦{fullShare} f) ∗ (∃ f, (sB).view.loc (vt d L) ↦{fullShare} f) ∗ (∃ f, (nB).view.loc (vt d L) ↦{fullShare} f)
        ∗ semVal (vt d L, .dma cc0_scratch7.sem) 0 ∗ semVal (vt d L, .dma cc0_scratch8.sem) 0
        ∗ semVal (vt d L, .dma cc0_scoped0.sem) 0 ∗ semVal (vt d L, .dma cc0_scoped1.sem) 0 ∗ owes (vt d L) O W : sProp 𝕄)
      ⊢ wpT d L (k0_part80 L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1 v35 v37 v38 c0) fun _ => iprop(
        Transfers.Flight countersEmb (vt d L) (.dma cc0_scratch7.sem) (default : HIx 1) xHalf0.view.dmaCredit (Staged d L X 0 256)
        ∗ Transfers.Flight countersEmb (vt d L) (.dma cc0_scratch8.sem) (default : HIx 1) xHalf1.view.dmaCredit (Staged d L X 256 512)
        ∗ ((sB).view.loc (vt d L) ↦{fullShare} (stagedRow L SC : Buf (Elt F) ((sB).view.loc (vt d L))))
        ∗ ((nB).view.loc (vt d L) ↦{fullShare} (stagedRow L NO : Buf (Elt F) ((nB).view.loc (vt d L))))
        ∗ semVal (vt d L, .dma cc0_scoped0.sem) 0 ∗ semVal (vt d L, .dma cc0_scoped1.sem) 0
        ∗ ∃ W', ⌜OwnWaits W W'⌝ ∗ owes (vt d L) O W') := by
  rw [k0_part80_eq_skeleton]; unfold k0_part80_skel
  iintro ⟨#Hmw, Hx, Hs, Hn, ⟨%fx, Hxb⟩, ⟨%fs, Hsb⟩, ⟨%fn, Hnb⟩, Ha, Hb, Hc, He, HO⟩
  -- the scratch in halves, the operands' shares in two
  ihave Hxb' := (Entails.of_eq (show ((xB).view.loc (vt d L) ↦{fullShare} fx : sProp 𝕄)
    = ((xB).view.loc (vt d L) ↦[XRows 0 256 ∪ XRows 256 512]{fullShare} fx) from congrArg (fun A => ((xB).view.loc (vt d L) ↦[A]{fullShare} fx : sProp 𝕄)) XRows_univ)) $$ Hxb
  ihave Hxb'' := (pointsTo_union (XRows_disjoint)).1 $$ Hxb'
  icases Hxb'' with ⟨Hxa, Hxc⟩
  ihave Hx' := (pointsTo_share (PosShare.mem_left_op_right q)).1 $$ Hx
  icases Hx' with ⟨Hx0, Hx1⟩
  ihave Hx0' := (pointsTo_split_subset (q := q.left) (f := (X : Buf (Elt F) (xLoc d))) (S := Finset.univ) (Finset.subset_univ
    ((xV).slice (Rect.unit (s := S1024x8x128) (k0_off1 L) S256x1x128.size (k0_off1_inb L)) (fun _ => rfl)).view.set)).1 $$ Hx0
  icases Hx0' with ⟨Hx0, -⟩
  ihave Hx1' := (pointsTo_split_subset (q := q.right) (f := (X : Buf (Elt F) (xLoc d))) (S := Finset.univ) (Finset.subset_univ
    ((xV).slice (Rect.unit (s := S1024x8x128) (k0_off2 L) S256x1x128.size (k0_off2_inb L)) (fun _ => rfl)).view.set)).1 $$ Hx1
  icases Hx1' with ⟨Hx1, -⟩
  ihave Hs' := (pointsTo_split_subset (q := q) (f := (SC : Buf (Elt F) (sLoc d))) (S := Finset.univ) (Finset.subset_univ
    ((sV).slice (Rect.unit (s := S32x128) (k0_off3 L) S1x128.size (k0_off3_inb L)) (fun _ => rfl)).view.set)).1 $$ Hs
  icases Hs' with ⟨Hs, -⟩
  ihave Hn' := (pointsTo_split_subset (q := q) (f := (NO : Buf (Elt F) (nLoc d))) (S := Finset.univ) (Finset.subset_univ
    ((nV).slice (Rect.unit (s := S32x128) (k0_off3 L) S1x128.size (k0_off3_inb L)) (fun _ => rfl)).view.set)).1 $$ Hn
  icases Hn' with ⟨Hn, -⟩
  -- the first half's copy
  iapply (Transfers.wp_dmaLocal countersEmb 𝒱₀ (vt d L) none (default : HIx 1) _ rfl (View.amount_pos _ _ (show 0 < S256x1x128.numel by decide))
    (half_set).le) $$ [Hx0 Hxa Ha]
  · isplitl [Hx0]; · iexact Hx0
    isplitl [Hxa] <;> iassumption
  iintro Hfa
  -- the second half's copy
  iapply (Transfers.wp_dmaLocal countersEmb 𝒱₀ (vt d L) none (default : HIx 1) _ rfl (View.amount_pos _ _ (show 0 < S256x1x128.numel by decide))
    (half_set).le) $$ [Hx1 Hxc Hb]
  · isplitl [Hx1]; · iexact Hx1
    isplitl [Hxc] <;> iassumption
  iintro Hfb
  -- the scales' row
  iapply (Transfers.wp_dmaLocal countersEmb 𝒱₀ (vt d L) none (default : HIx 1) _ rfl (View.amount_pos _ _ (show 0 < S1x128.numel by decide))
    (Finset.subset_univ _)) $$ [Hs Hsb Hc]
  · isplitl [Hs]; · iexact Hs
    isplitl [Hsb] <;> iassumption
  iintro Hfs
  iapply (Transfers.wp_waitLocalO countersEmb 𝒱₀ (vt d L) none (default : HIx 1) (rfl : (sB).view.dmaCredit = _)) $$ [Hfs HO]
  · isplitl [Hfs]; · iexact Hfs
    isplitl [HO]; · iexact HO
    iapply (Transfers.MayWaits.elim (SemLoc.dma cc0_scoped0.sem)) $$ Hmw
  iintro ⟨⟨Hsb, -⟩, Hc, HO⟩
  -- the offsets' row
  iapply (Transfers.wp_dmaLocal countersEmb 𝒱₀ (vt d L) none (default : HIx 1) _ rfl (View.amount_pos _ _ (show 0 < S1x128.numel by decide))
    (Finset.subset_univ _)) $$ [Hn Hnb He]
  · isplitl [Hn]; · iexact Hn
    isplitl [Hnb] <;> iassumption
  iintro Hfn
  iapply (Transfers.wp_waitLocalO countersEmb 𝒱₀ (vt d L) none (default : HIx 1) (rfl : (nB).view.dmaCredit = _)) $$ [Hfn HO]
  · isplitl [Hfn]; · iexact Hfn
    isplitl [HO]; · iexact HO
    iapply (Transfers.MayWaits.elim (SemLoc.dma cc0_scoped1.sem)) $$ Hmw
  iintro ⟨⟨Hnb, -⟩, He, HO⟩
  iapply (wpT_ret d L)
  isplitl [Hfa]
  · iapply (Transfers.Flight_mono countersEmb (vt d L) (D := _) (D' := Staged d L X 0 256) ?_) $$ Hfa
    iintro ⟨H, -⟩
    iapply (Entails.of_eq (half_landed d L X (o := 0) (off1_eq L) fx)) $$ H
  isplitl [Hfb]
  · iapply (Transfers.Flight_mono countersEmb (vt d L) (D := _) (D' := Staged d L X 256 512) ?_) $$ Hfb
    iintro ⟨H, -⟩
    iapply (Entails.of_eq (half_landed d L X (o := 256) (off2_eq L) fx)) $$ H
  isplitl [Hsb]
  · iapply (Entails.of_eq (congrArg (fun f : Buf (Elt F) ((sB).view.loc (vt d L)) => ((sB).view.loc (vt d L) ↦{fullShare} f : sProp 𝕄))
      ((View.write_whole_univ _ _ _).trans (stagedRow_read L SC (off3_eq L))))) $$ Hsb
  isplitl [Hnb]
  · iapply (Entails.of_eq (congrArg (fun f : Buf (Elt F) ((nB).view.loc (vt d L)) => ((nB).view.loc (vt d L) ↦{fullShare} f : sProp 𝕄))
      ((View.write_whole_univ _ _ _).trans (stagedRow_read' L NO (off3_eq L))))) $$ Hnb
  isplitl [Hc]; · iexact Hc
  isplitl [He]; · iexact He
  iexists _
  isplitr
  swap; · iexact HO
  ipureintro
  exact ((OwnWaits.refl W).insert _).insert _

/-! ## The tile's scale and offsets -/

/-- A strip of a staged row, at lane `l`. -/
theorem lane_read (v : Memref sig .scVector .vmem S1x128 .f32) (R : v.view.ty.Contents (Elt F)) (a : Fin 8) (l : S16.Idx)
    {off : Fin 2 → ℕ} {inb : ∀ a, off a + S1x16.size a ≤ S1x128.size a} (hoff : off = ![0, 16 * a.val]) :
    (shapeCast S16 (v.view.readAt (Elt F) (Rect.unit (s := S1x128) off S1x16.size inb).toLoadRect R) shapeCasts_S1x16_S16 : FVec F S16 .f32) l
      = v.view.read (Elt F) R (ix2 (n0 := 1) (n1 := 128) 0 ⟨16 * a.val + (l 0).val, by have h : (l 0).val < 16 := (l 0).isLt; omega⟩) := by
  subst hoff
  have e : l = ix1 (n0 := 16) (l 0) := by funext b; fin_cases b; rfl
  have e' (x : Vec F S1x16 .f32) (m : Fin 16) : (shapeCast S16 x shapeCasts_S1x16_S16 : FVec F S16 .f32) (ix1 m) = x (ix2 (n0 := 1) (n1 := 16) 0 m) := by pointwise
  refine (congrArg _ e).trans ((e' _ (l 0)).trans ?_)
  rw [View.readAt_apply]
  congr 1
  funext b; apply Fin.ext
  fin_cases b
  · rfl
  · show 16 * a.val + 1 * (l 0).val = 16 * a.val + (l 0).val; omega

theorem laneS_read (SC : S32x128.Idx → F .f32) :
    (shapeCast S16 ((sB).view.readAt (Elt F) (Rect.unit (s := S1x128) ![0, 0] S1x16.size inb_S1x128_S1x16_0_0).toLoadRect (stagedRow L SC)) shapeCasts_S1x16_S16
      : FVec F S16 .f32) = laneS L SC := by
  funext l
  refine (lane_read sB (stagedRow L SC) 0 l rfl).trans ?_
  refine congrArg SC ?_
  funext b; apply Fin.ext
  fin_cases b
  · rfl
  · show 16 * 0 + (l 0).val = (l 0).val; omega

theorem laneO_read (NO : S32x128.Idx → F .f32) (a : Fin 8) {off : Fin 2 → ℕ} {inb : ∀ a, off a + S1x16.size a ≤ S1x128.size a}
    (hoff : off = ![0, 16 * a.val]) :
    (shapeCast S16 ((nB).view.readAt (Elt F) (Rect.unit (s := S1x128) off S1x16.size inb).toLoadRect (stagedRow L NO)) shapeCasts_S1x16_S16
      : FVec F S16 .f32) = laneO L NO a := by
  funext l
  refine (lane_read nB (stagedRow L NO) a l hoff).trans ?_
  refine congrArg NO ?_
  funext b; apply Fin.ext
  fin_cases b <;> rfl

/-- After the first half's wait: the half of the slab held, the scale and the offsets of the tile returned. -/
theorem wp_lanes (X : S1024x8x128.Idx → F .f32) (SC NO : S32x128.Idx → F .f32)
    (O : CellTallies nD τ sig (HIx 1)) (W W₁ : Waits sig (HIx 1)) (hW : OwnWaits W W₁) :
    iprop(Transfers.MayWaits (vt d L) (default : HIx 1) O
        ∗ Transfers.Flight countersEmb (vt d L) (.dma cc0_scratch7.sem) (default : HIx 1) xHalf0.view.dmaCredit (Staged d L X 0 256)
        ∗ ((sB).view.loc (vt d L) ↦{fullShare} (stagedRow L SC : Buf (Elt F) ((sB).view.loc (vt d L))))
        ∗ ((nB).view.loc (vt d L) ↦{fullShare} (stagedRow L NO : Buf (Elt F) ((nB).view.loc (vt d L))))
        ∗ owes (vt d L) O W₁ : sProp 𝕄)
      ⊢ wpT d L (k0_part81 L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1) fun r => iprop(
        ⌜r = ⟨laneS L SC, laneO L NO 0, laneO L NO 1, laneO L NO 2, laneO L NO 3, laneO L NO 4, laneO L NO 5, laneO L NO 6, laneO L NO 7,
            0#32, Scalar.ofBits .f32 0x00000000#32⟩⌝
        ∗ Staged d L X 0 256 ∗ semVal (vt d L, .dma cc0_scratch7.sem) 0
        ∗ ((sB).view.loc (vt d L) ↦{fullShare} (stagedRow L SC : Buf (Elt F) ((sB).view.loc (vt d L))))
        ∗ ((nB).view.loc (vt d L) ↦{fullShare} (stagedRow L NO : Buf (Elt F) ((nB).view.loc (vt d L))))
        ∗ ∃ W', ⌜OwnWaits W W'⌝ ∗ owes (vt d L) O W') := by
  rw [k0_part81_eq_skeleton]; unfold k0_part81_skel
  iintro ⟨#Hmw, Hf, Hs, Hn, HO⟩
  iapply (Transfers.wp_waitLocalO countersEmb 𝒱₀ (vt d L) none (default : HIx 1) (rfl : xHalf0.view.dmaCredit = _)) $$ [Hf HO]
  · isplitl [Hf]; · iexact Hf
    isplitl [HO]; · iexact HO
    iapply (Transfers.MayWaits.elim (SemLoc.dma cc0_scratch7.sem)) $$ Hmw
  iintro ⟨Hx, Hsem, HO⟩
  iapply (wp_load 𝒱₀ (vt d L) none Set.univ (Finset.subset_univ _)) $$ Hs
  iintro Hs
  iapply (wp_load 𝒱₀ (vt d L) none Set.univ (Finset.subset_univ _)) $$ Hn
  iintro Hn
  iapply (wp_load 𝒱₀ (vt d L) none Set.univ (Finset.subset_univ _)) $$ Hn
  iintro Hn
  iapply (wp_load 𝒱₀ (vt d L) none Set.univ (Finset.subset_univ _)) $$ Hn
  iintro Hn
  iapply (wp_load 𝒱₀ (vt d L) none Set.univ (Finset.subset_univ _)) $$ Hn
  iintro Hn
  iapply (wp_load 𝒱₀ (vt d L) none Set.univ (Finset.subset_univ _)) $$ Hn
  iintro Hn
  iapply (wp_load 𝒱₀ (vt d L) none Set.univ (Finset.subset_univ _)) $$ Hn
  iintro Hn
  iapply (wp_load 𝒱₀ (vt d L) none Set.univ (Finset.subset_univ _)) $$ Hn
  iintro Hn
  iapply (wp_load 𝒱₀ (vt d L) none Set.univ (Finset.subset_univ _)) $$ Hn
  iintro Hn
  iapply (wpT_ret d L)
  isplitr
  · ipureintro
    have e (a : Fin 8) (off : Fin 2 → ℕ) (inb : ∀ a, off a + S1x16.size a ≤ S1x128.size a) (h : off = ![0, 16 * a.val]) := laneO_read (F := F) L NO a (inb := inb) h
    unfold k0_pay497 k0_pay498 k0_pay499 k0_pay500 k0_pay501 k0_pay502 k0_pay503 k0_pay504 k0_pay505
    rw [← laneS_read L SC, ← e 0 ![0, 0] inb_S1x128_S1x16_0_0 rfl, ← e 1 ![0, 16] inb_S1x128_S1x16_0_16 rfl, ← e 2 ![0, 32] inb_S1x128_S1x16_0_32 rfl,
      ← e 3 ![0, 48] inb_S1x128_S1x16_0_48 rfl, ← e 4 ![0, 64] inb_S1x128_S1x16_0_64 rfl, ← e 5 ![0, 80] inb_S1x128_S1x16_0_80 rfl,
      ← e 6 ![0, 96] inb_S1x128_S1x16_0_96 rfl, ← e 7 ![0, 112] inb_S1x128_S1x16_0_112 rfl]
  isplitl [Hx]; · iexact Hx
  isplitl [Hsem]; · iexact Hsem
  isplitl [Hs]; · iexact Hs
  isplitl [Hn]; · iexact Hn
  iexists _
  isplitr
  swap; · iexact HO
  ipureintro
  exact hW.insert _

end Cert.Proof.Encode
-- ==== Proof.Turns.lean ====
/-
  The chunks, in pairs. A pair goes through the two output blocks: for each block in turn the copy in flight from it is
  awaited, the block is filled for the next chunk and its copy to the chunk's rows is started. Between pairs two copies are in
  flight, the rows of all earlier chunks are written, and the rows of all later chunks are as they were.
-/
module

public import proofs.«01_k».proof.Proof.Fetch

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v17_scv : Memref Cert.KernelIdeal.sig Kind.scVector Space.hbm Cert.KernelIdeal.S1024x8x128 EltTy.f32)
local notation "sV" => (Memref.whole Cert.KernelIdeal.main_v10_scv : Memref Cert.KernelIdeal.sig Kind.scVector Space.hbm Cert.KernelIdeal.S32x128 EltTy.f32)
local notation "nV" => (Memref.whole Cert.KernelIdeal.main_v14_scv : Memref Cert.KernelIdeal.sig Kind.scVector Space.hbm Cert.KernelIdeal.S32x128 EltTy.f32)
local notation "oV" => (Memref.whole Cert.KernelIdeal.main_v18_scv : Memref Cert.KernelIdeal.sig Kind.scVector Space.hbm Cert.KernelIdeal.S131072x128 EltTy.f32)
local notation "xB" => (Memref.whole Cert.KernelIdeal.cc0_scratch0 : Memref Cert.KernelIdeal.sig Kind.scVector Space.vmem Cert.KernelIdeal.S512x1x128 EltTy.f32)
local notation "sB" => (Memref.whole Cert.KernelIdeal.cc0_scratch1 : Memref Cert.KernelIdeal.sig Kind.scVector Space.vmem Cert.KernelIdeal.S1x128 EltTy.f32)
local notation "nB" => (Memref.whole Cert.KernelIdeal.cc0_scratch2 : Memref Cert.KernelIdeal.sig Kind.scVector Space.vmem Cert.KernelIdeal.S1x128 EltTy.f32)
local notation "ob0" => (Memref.whole Cert.KernelIdeal.cc0_scratch3 : Memref Cert.KernelIdeal.sig Kind.scVector Space.vmem Cert.KernelIdeal.S128x128 EltTy.f32)
local notation "ob1" => (Memref.whole Cert.KernelIdeal.cc0_scratch4 : Memref Cert.KernelIdeal.sig Kind.scVector Space.vmem Cert.KernelIdeal.S128x128 EltTy.f32)
variable (d : Dev nD) (L : grid0.Coords)

/-- The output's rows a copy's wait is counted by. -/
abbrev oAny : Memref sig .scVector .hbm S128x128 .f32 :=
  (oV).slice (Rect.unit (s := S131072x128) ![0, 0] S128x128.size inb_S131072x128_S128x128_0_0) (fun _ => rfl)

set_option maxHeartbeats 1000000 in
/-- One turn of a block: the copy in flight is waited for, the block filled for chunk `c` and its copy started. -/
theorem wp_turn (X : S1024x8x128.Idx → F .f32) (SC NO : S32x128.Idx → F .f32)
    (ob : Memref sig .scVector .vmem S128x128 .f32) (hob : ob.view.WordExact) (sm : DmaSem sig)
    (A : Finset S512x1x128.Idx) {c k : ℕ} (m : ℕ) (hc : c < 32) (hk : k = 32 * wid L + c) (hA : ∀ t < 16, RowIn xB A (c * 16 + t))
    (lp : Scf.Loop 32) (hlp : lp.trips = 16) (hok : lp.OK) (body : Fin lp.trips → Unit → TileProg L F Unit)
    (hbody : ∀ t, ∃ (hn : c * 16 + t.val < 512) (ht : t.val < 16), body t ⟨⟩ = trip L xB ob hn ht (laneS L SC) (laneO L NO))
    {off : Fin 2 → ℕ} {inb : ∀ a, off a + S128x128.size a ≤ S131072x128.size a} (hoff : off = ![128 * k, 0])
    {h0 h1 h2 h3} {α : Type} (kk : PUnit → TileProg L F α) (Q : α → sProp 𝕄) (fo : Buf (Elt F) (oLoc d))
    (O : CellTallies nD τ sig (HIx 1)) (W W₁ : Waits sig (HIx 1)) (hW : OwnWaits W W₁) :
    iprop(Transfers.MayWaits (vt d L) (default : HIx 1) O
        ∗ ((xB).view.loc (vt d L) ↦[A]{fullShare} (stagedX L X : Buf (Elt F) ((xB).view.loc (vt d L))))
        ∗ Flying d L sm (Landed d L (outVal X SC NO) m ob)
        ∗ (oLoc d ↦[Rows k (k + 1)]{fullShare} fo) ∗ owes (vt d L) O W₁) ⊢
      iprop((iprop(((xB).view.loc (vt d L) ↦[A]{fullShare} (stagedX L X : Buf (Elt F) ((xB).view.loc (vt d L))))
          ∗ (oLoc d ↦[Rows m (m + 1)]{fullShare} (outVal X SC NO : Buf (Elt F) (oLoc d)))
          ∗ Flying d L sm (Landed d L (outVal X SC NO) k ob)
          ∗ ∃ W₂, ⌜OwnWaits W W₂⌝ ∗ owes (vt d L) O W₂) -∗ wpT d L (kk ⟨⟩) Q)
        -∗ wpT d L (Prog.op (.waitDma2 sm ob oAny h0 h1) fun _ => do
            Scf.Loop.for lp hok ⟨⟩ body
            Prog.op (.enqueueDma ob (.here ((oV).slice (Rect.unit (s := S131072x128) off S128x128.size inb) (fun _ => rfl)))
              (.dma sm) hob h2 h3) kk) Q) := by
  iintro ⟨#Hmw, Hx, Hf, Ho, HO⟩ HK
  iapply (Transfers.wp_waitLocalO countersEmb 𝒱₀ (vt d L) none (default : HIx 1) (rfl : oAny.view.dmaCredit = _)) $$ [Hf HO]
  · isplitl [Hf]; · iexact Hf
    isplitl [HO]; · iexact HO
    iapply (Transfers.MayWaits.elim (SemLoc.dma sm)) $$ Hmw
  iintro ⟨⟨Hl, Hob⟩, Hs, HO⟩
  iapply (wp_fill d L X SC NO ob hob sm A hc hk hA lp hlp hok body hbody hoff kk Q fo) $$ [Hx Hob Ho Hs]
  · isplitl [Hx]; · iexact Hx
    isplitl [Hob]; · iexact Hob
    isplitl [Ho]; · iexact Ho
    iexact Hs
  iintro ⟨Hx, Hf⟩
  iapply HK
  isplitl [Hx]; · iexact Hx
  isplitl [Hl]; · iexact Hl
  isplitl [Hf]; · iexact Hf
  iexists _
  isplitr
  swap; · iexact HO
  ipureintro
  exact hW.insert _

/-- Between pairs: the copies of chunks `m` and `m + 1` in flight, the rows before them written, the rows after them, up to
    chunk `e`, as they were. -/
abbrev Pairs (X : S1024x8x128.Idx → F .f32) (SC NO : S32x128.Idx → F .f32) (A : Finset S512x1x128.Idx) (fo : Buf (Elt F) (oLoc d))
    (O : CellTallies nD τ sig (HIx 1)) (W : Waits sig (HIx 1)) (b e m : ℕ) : sProp 𝕄 :=
  iprop(Transfers.MayWaits (vt d L) (default : HIx 1) O
    ∗ ((xB).view.loc (vt d L) ↦[A]{fullShare} (stagedX L X : Buf (Elt F) ((xB).view.loc (vt d L))))
    ∗ Flying d L cc0_scratch5.sem (Landed d L (outVal X SC NO) m ob0)
    ∗ Flying d L cc0_scratch6.sem (Landed d L (outVal X SC NO) (m + 1) ob1)
    ∗ (oLoc d ↦[Rows b m]{fullShare} (outVal X SC NO : Buf (Elt F) (oLoc d)))
    ∗ (oLoc d ↦[Rows (m + 2) e]{fullShare} fo)
    ∗ ∃ W', ⌜OwnWaits W W'⌝ ∗ owes (vt d L) O W')

set_option maxHeartbeats 1000000 in
/-- A pair of turns, the first for an even chunk `c`. -/
theorem wp_pair (X : S1024x8x128.Idx → F .f32) (SC NO : S32x128.Idx → F .f32) (A : Finset S512x1x128.Idx) (fo : Buf (Elt F) (oLoc d))
    (O : CellTallies nD τ sig (HIx 1)) (W : Waits sig (HIx 1)) {b e m c : ℕ} (hc : c + 1 < 32) (hm : m + 2 = 32 * wid L + c) (hb : b ≤ m) (he : m + 4 ≤ e)
    (hA : ∀ t < 32, RowIn xB A (c * 16 + t))
    (lp : Scf.Loop 32) (hlp : lp.trips = 16) (hok : lp.OK) (body : Fin lp.trips → Unit → TileProg L F Unit)
    (hbody : ∀ t, ∃ (hn : c * 16 + t.val < 512) (ht : t.val < 16), body t ⟨⟩ = trip L xB ob0 hn ht (laneS L SC) (laneO L NO))
    (lp' : Scf.Loop 32) (hlp' : lp'.trips = 16) (hok' : lp'.OK) (body' : Fin lp'.trips → Unit → TileProg L F Unit)
    (hbody' : ∀ t, ∃ (hn : (c + 1) * 16 + t.val < 512) (ht : t.val < 16), body' t ⟨⟩ = trip L xB ob1 hn ht (laneS L SC) (laneO L NO))
    {off : Fin 2 → ℕ} {inb : ∀ a, off a + S128x128.size a ≤ S131072x128.size a} (hoff : off = ![128 * (m + 2), 0])
    {off' : Fin 2 → ℕ} {inb' : ∀ a, off' a + S128x128.size a ≤ S131072x128.size a} (hoff' : off' = ![128 * (m + 3), 0])
    {h0 h1 h2 h3 h4 h5 h6 h7 h8 h9} :
    Pairs d L X SC NO A fo O W b e m
      ⊢ wpT d L (do
          Prog.lift (.waitDma2 cc0_scratch5.sem ob0 oAny h0 h1)
          Scf.Loop.for lp hok ⟨⟩ body
          Prog.lift (.enqueueDma ob0 (.here ((oV).slice (Rect.unit (s := S131072x128) off S128x128.size inb) (fun _ => rfl)))
            (.dma cc0_scratch5.sem) h2 h3 h4)
          Prog.lift (.waitDma2 cc0_scratch6.sem ob1 oAny h5 h6)
          Scf.Loop.for lp' hok' ⟨⟩ body'
          Prog.lift (.enqueueDma ob1 (.here ((oV).slice (Rect.unit (s := S131072x128) off' S128x128.size inb') (fun _ => rfl)))
            (.dma cc0_scratch6.sem) h7 h8 h9)
          pure ⟨⟩) fun (_ : Unit) => Pairs d L X SC NO A fo O W b e (m + 2) := by
  iintro ⟨#Hmw, Hx, Hf0, Hf1, Hd, Ht, ⟨%W₁, %hW₁, HO⟩⟩
  -- the rows of the pair's chunks, out of the rows to come
  ihave Ht' := (Entails.of_eq (congrArg (fun A => (oLoc d ↦[A]{fullShare} fo : sProp 𝕄)) (Rows_union (show m + 2 ≤ m + 3 by omega) (show m + 3 ≤ e by omega)))) $$ Ht
  ihave Ht'' := (pointsTo_union (Rows_disjoint (le_refl _))).1 $$ Ht'
  icases Ht'' with ⟨Ha, Ht⟩
  ihave Ht' := (Entails.of_eq (congrArg (fun A => (oLoc d ↦[A]{fullShare} fo : sProp 𝕄)) (Rows_union (show m + 3 ≤ m + 4 by omega) he))) $$ Ht
  ihave Ht'' := (pointsTo_union (Rows_disjoint (le_refl _))).1 $$ Ht'
  icases Ht'' with ⟨Hb, Ht⟩
  iapply (wp_turn d L X SC NO ob0 h2 cc0_scratch5.sem A (c := c) (k := m + 2) m (by omega) hm (fun t ht => hA t (by omega)) lp hlp hok body hbody hoff _ _ fo O W W₁ hW₁) $$ [Hx Hf0 Ha HO]
  · isplitr; · iexact Hmw
    isplitl [Hx]; · iexact Hx
    isplitl [Hf0]; · iexact Hf0
    isplitl [Ha]; · iexact Ha
    iexact HO
  iintro ⟨Hx, Hm, Hf0, ⟨%W₂, %hW₂, HO⟩⟩
  iapply (wp_turn d L X SC NO ob1 h7 cc0_scratch6.sem A (c := c + 1) (k := m + 3) (m + 1) hc (by omega)
    (fun t ht => by rw [show (c + 1) * 16 + t = c * 16 + (16 + t) by omega]; exact hA _ (by omega)) lp' hlp' hok' body' hbody' hoff' _ _ fo O W W₂ hW₂) $$ [Hx Hf1 Hb HO]
  · isplitr; · iexact Hmw
    isplitl [Hx]; · iexact Hx
    isplitl [Hf1]; · iexact Hf1
    isplitl [Hb]; · iexact Hb
    iexact HO
  iintro ⟨Hx, Hm', Hf1, HO⟩
  iapply (wpT_ret d L)
  isplitr; · iexact Hmw
  isplitl [Hx]; · iexact Hx
  isplitl [Hf0]; · iexact Hf0
  isplitl [Hf1]; · iexact Hf1
  isplitl [Hd Hm Hm']
  · iapply (Entails.of_eq (congrArg (fun A => (oLoc d ↦[A]{fullShare} (outVal X SC NO : Buf (Elt F) (oLoc d)) : sProp 𝕄)) (Rows_union (show b ≤ m + 1 by omega) (show m + 1 ≤ m + 2 by omega)).symm))
    iapply (pointsTo_union (Rows_disjoint (le_refl _))).2
    isplitl [Hd Hm]
    · iapply (Entails.of_eq (congrArg (fun A => (oLoc d ↦[A]{fullShare} (outVal X SC NO : Buf (Elt F) (oLoc d)) : sProp 𝕄)) (Rows_union (show b ≤ m by omega) (show m ≤ m + 1 by omega)).symm))
      iapply (pointsTo_union (Rows_disjoint (le_refl _))).2
      isplitl [Hd]
      · iexact Hd
      · iexact Hm
    · iexact Hm'
  isplitl [Ht]; · iexact Ht
  iexact HO

end Cert.Proof.Encode
-- ==== Proof.Tile.lean ====
/-
  The task, whole: the fetches, two filled blocks set in flight, the first outer loop over the pairs of the slab's first half,
  the second half awaited, the second outer loop, and the last two copies awaited.
-/
module

public import proofs.«01_k».proof.Proof.Turns

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v17_scv : Memref Cert.KernelIdeal.sig Kind.scVector Space.hbm Cert.KernelIdeal.S1024x8x128 EltTy.f32)
local notation "sV" => (Memref.whole Cert.KernelIdeal.main_v10_scv : Memref Cert.KernelIdeal.sig Kind.scVector Space.hbm Cert.KernelIdeal.S32x128 EltTy.f32)
local notation "nV" => (Memref.whole Cert.KernelIdeal.main_v14_scv : Memref Cert.KernelIdeal.sig Kind.scVector Space.hbm Cert.KernelIdeal.S32x128 EltTy.f32)
local notation "oV" => (Memref.whole Cert.KernelIdeal.main_v18_scv : Memref Cert.KernelIdeal.sig Kind.scVector Space.hbm Cert.KernelIdeal.S131072x128 EltTy.f32)
local notation "xB" => (Memref.whole Cert.KernelIdeal.cc0_scratch0 : Memref Cert.KernelIdeal.sig Kind.scVector Space.vmem Cert.KernelIdeal.S512x1x128 EltTy.f32)
local notation "sB" => (Memref.whole Cert.KernelIdeal.cc0_scratch1 : Memref Cert.KernelIdeal.sig Kind.scVector Space.vmem Cert.KernelIdeal.S1x128 EltTy.f32)
local notation "nB" => (Memref.whole Cert.KernelIdeal.cc0_scratch2 : Memref Cert.KernelIdeal.sig Kind.scVector Space.vmem Cert.KernelIdeal.S1x128 EltTy.f32)
local notation "ob0" => (Memref.whole Cert.KernelIdeal.cc0_scratch3 : Memref Cert.KernelIdeal.sig Kind.scVector Space.vmem Cert.KernelIdeal.S128x128 EltTy.f32)
local notation "ob1" => (Memref.whole Cert.KernelIdeal.cc0_scratch4 : Memref Cert.KernelIdeal.sig Kind.scVector Space.vmem Cert.KernelIdeal.S128x128 EltTy.f32)
variable (d : Dev nD) (L : grid0.Coords)

theorem laneO_vec (NO : S32x128.Idx → F .f32) :
    ![laneO L NO 0, laneO L NO 1, laneO L NO 2, laneO L NO 3, laneO L NO 4, laneO L NO 5, laneO L NO 6, laneO L NO 7] = laneO L NO := by
  funext a; fin_cases a <;> rfl

theorem off_row {n k : ℕ} (h : n = 128 * k) : (![n, 0] : Fin 2 → ℕ) = ![128 * k, 0] := by rw [h]

/-- The constants of the clamp. -/
abbrev zeroB : F .f32 := Scalar.ofBits .f32 0x00000000#32
abbrev oneB : F .f32 := Scalar.ofBits .f32 0x3F800000#32

theorem wpT_step {α β : Type} (a : α) (k : α → TileProg L F β) (Q : β → sProp 𝕄) :
    wpT d L (k a) Q ⊢ wpT d L (Prog.bind (Prog.ret a) k) Q := .rfl

/-- A pair of the first outer loop. -/
theorem pair_first (X : S1024x8x128.Idx → F .f32) (SC NO : S32x128.Idx → F .f32) (fo : Buf (Elt F) (oLoc d))
    (O : CellTallies nD τ sig (HIx 1)) (W : Waits sig (HIx 1)) (v1 c0 : BitVec 32) (g : Fin k0_t3_loop.trips) (u : Unit) :
    Pairs d L X SC NO (XRows 0 256) fo O W (32 * wid L) (32 * wid L + 32) (32 * wid L + 2 * g.val)
      ⊢ wpT d L (k0_t3_body L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1 v1 (laneS L SC)
          (laneO L NO 0) (laneO L NO 1) (laneO L NO 2) (laneO L NO 3) (laneO L NO 4) (laneO L NO 5) (laneO L NO 6) (laneO L NO 7) c0 zeroB zeroB oneB g u)
        fun _ => Pairs d L X SC NO (XRows 0 256) fo O W (32 * wid L) (32 * wid L + 32) (32 * wid L + 2 * (g.val + 1)) := by
  have hg : g.val < 7 := g.isLt
  exact wp_pair d L X SC NO (XRows 0 256) fo O W (b := 32 * wid L) (e := 32 * wid L + 32) (m := 32 * wid L + 2 * g.val) (c := 2 * (1 + g.val))
    (by omega) (by omega) (by omega) (by omega) (fun t ht => rowIn_XRows (by omega) (by omega))
    k0_t4_loop rfl k0_t4_ok _ (fun t => ⟨row4_lt g t, t.isLt, (region4 L _ _ _ _ _ _ _ _ _ _ _ _ _ _ _ _ _ _ _ _ _ _ _ _ _ _ _ _ _ _ _ _ _ _ _ g _ t).trans
      (by rw [laneO_vec])⟩)
    k0_t5_loop rfl k0_t5_ok _ (fun t => ⟨row5_lt g t, t.isLt, (region5 L _ _ _ _ _ _ _ _ _ _ _ _ _ _ _ _ _ _ _ _ _ _ _ _ _ _ _ _ _ _ _ _ _ _ _ g _ t).trans
      (by rw [laneO_vec])⟩)
    ((k0_off53_eq L g).trans (off_row (by unfold wid; omega))) ((k0_off70_eq L g).trans (off_row (by unfold wid; omega)))

/-- A pair of the second outer loop. -/
theorem pair_second (X : S1024x8x128.Idx → F .f32) (SC NO : S32x128.Idx → F .f32) (fo : Buf (Elt F) (oLoc d))
    (O : CellTallies nD τ sig (HIx 1)) (W : Waits sig (HIx 1)) (g : Fin k0_t6_loop.trips) (u : Unit) :
    Pairs d L X SC NO (XRows 256 512) fo O W (32 * wid L) (32 * wid L + 32) (32 * wid L + 14 + 2 * g.val)
      ⊢ wpT d L (k0_t6_body L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1 (laneS L SC)
          (laneO L NO 0) (laneO L NO 1) (laneO L NO 2) (laneO L NO 3) (laneO L NO 4) (laneO L NO 5) (laneO L NO 6) (laneO L NO 7) zeroB oneB g u)
        fun _ => Pairs d L X SC NO (XRows 256 512) fo O W (32 * wid L) (32 * wid L + 32) (32 * wid L + 14 + 2 * (g.val + 1)) := by
  have hg : g.val < 8 := g.isLt
  exact wp_pair d L X SC NO (XRows 256 512) fo O W (b := 32 * wid L) (e := 32 * wid L + 32) (m := 32 * wid L + 14 + 2 * g.val) (c := 2 * (8 + g.val))
    (by omega) (by omega) (by omega) (by omega) (fun t ht => rowIn_XRows (by omega) (by omega))
    k0_t7_loop rfl k0_t7_ok _ (fun t => ⟨row7_lt g t, t.isLt, (region7 L _ _ _ _ _ _ _ _ _ _ _ _ _ _ _ _ _ _ _ _ _ _ _ _ _ _ _ _ _ _ _ _ _ g _ t).trans
      (by rw [laneO_vec])⟩)
    k0_t8_loop rfl k0_t8_ok _ (fun t => ⟨row8_lt g t, t.isLt, (region8 L _ _ _ _ _ _ _ _ _ _ _ _ _ _ _ _ _ _ _ _ _ _ _ _ _ _ _ _ _ _ _ _ _ g _ t).trans
      (by rw [laneO_vec])⟩)
    ((k0_off87_eq L g).trans (off_row (by unfold wid; omega))) ((k0_off104_eq L g).trans (off_row (by unfold wid; omega)))

set_option maxHeartbeats 1000000 in
/-- The first half of the task's chunks: two filled blocks set in flight, then seven pairs. -/
theorem wp_firstHalf (X : S1024x8x128.Idx → F .f32) (SC NO : S32x128.Idx → F .f32) (fo : Buf (Elt F) (oLoc d))
    (O : CellTallies nD τ sig (HIx 1)) (W W₁ : Waits sig (HIx 1)) (hW : OwnWaits W W₁) (v1 c0 : BitVec 32) :
    iprop(Transfers.MayWaits (vt d L) (default : HIx 1) O
        ∗ Staged d L X 0 256
        ∗ (∃ g, (ob0).view.loc (vt d L) ↦[(ob0).view.set]{fullShare} g) ∗ (∃ g, (ob1).view.loc (vt d L) ↦[(ob1).view.set]{fullShare} g)
        ∗ semVal (vt d L, .dma cc0_scratch5.sem) 0 ∗ semVal (vt d L, .dma cc0_scratch6.sem) 0
        ∗ (oLoc d ↦[Rows (32 * wid L) (32 * wid L + 32)]{fullShare} fo) ∗ owes (vt d L) O W₁)
      ⊢ wpT d L (k0_part82 L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1 v1 (laneS L SC)
          (laneO L NO 0) (laneO L NO 1) (laneO L NO 2) (laneO L NO 3) (laneO L NO 4) (laneO L NO 5) (laneO L NO 6) (laneO L NO 7) c0 zeroB)
        fun _ => Pairs d L X SC NO (XRows 0 256) fo O W (32 * wid L) (32 * wid L + 32) (32 * wid L + 14) := by
  rw [k0_part82_eq_skeleton]; unfold k0_part82_skel
  iintro ⟨#Hmw, Hx, Hb0, Hb1, Hs0, Hs1, Ho, HO⟩
  ihave Ht' := (Entails.of_eq (congrArg (fun A => (oLoc d ↦[A]{fullShare} fo : sProp 𝕄)) (Rows_union (show 32 * wid L ≤ 32 * wid L + 1 by omega) (show 32 * wid L + 1 ≤ 32 * wid L + 32 by omega)))) $$ Ho
  ihave Ht'' := (pointsTo_union (Rows_disjoint (le_refl _))).1 $$ Ht'
  icases Ht'' with ⟨Ha, Ht⟩
  ihave Ht' := (Entails.of_eq (congrArg (fun A => (oLoc d ↦[A]{fullShare} fo : sProp 𝕄)) (Rows_union (show 32 * wid L + 1 ≤ 32 * wid L + 2 by omega) (show 32 * wid L + 2 ≤ 32 * wid L + 32 by omega)))) $$ Ht
  ihave Ht'' := (pointsTo_union (Rows_disjoint (le_refl _))).1 $$ Ht'
  icases Ht'' with ⟨Hb, Ht⟩
  iapply (wp_fill d L X SC NO ob0 (Memref.isWhole_whole _).wordExact cc0_scratch5.sem (XRows 0 256) (c := 0) (k := 32 * wid L) (by omega) (by omega)
    (fun t ht => rowIn_XRows (by omega) (by omega)) k0_t1_loop rfl k0_t1_ok _
    (fun t => ⟨row1_lt t, t.isLt, (region1 L _ _ _ _ _ _ _ _ _ _ _ _ _ _ _ _ _ _ _ _ _ _ _ _ _ _ _ _ _ _ _ _ _ _ _ t).trans (by rw [laneO_vec])⟩)
    ((k0_off20_eq L 0).trans (off_row (by show 8192 * (L 1).val + 4096 * (L 0).val + 128 * 0 = _; unfold wid; omega))) _ _ fo) $$ [Hx Hb0 Ha Hs0]
  · isplitl [Hx]; · iexact Hx
    isplitl [Hb0]; · iexact Hb0
    isplitl [Ha]; · iexact Ha
    iexact Hs0
  iintro ⟨Hx, Hf0⟩
  iapply (wp_fill d L X SC NO ob1 (Memref.isWhole_whole _).wordExact cc0_scratch6.sem (XRows 0 256) (c := 1) (k := 32 * wid L + 1) (by omega) (by omega)
    (fun t ht => rowIn_XRows (by omega) (by omega)) k0_t2_loop rfl k0_t2_ok _
    (fun t => ⟨row2_lt t, t.isLt, (region2 L _ _ _ _ _ _ _ _ _ _ _ _ _ _ _ _ _ _ _ _ _ _ _ _ _ _ _ _ _ _ _ _ _ _ _ t).trans (by rw [laneO_vec])⟩)
    ((k0_off20_eq L 1).trans (off_row (by show 8192 * (L 1).val + 4096 * (L 0).val + 128 * 1 = _; unfold wid; omega))) _ _ fo) $$ [Hx Hb1 Hb Hs1]
  · isplitl [Hx]; · iexact Hx
    isplitl [Hb1]; · iexact Hb1
    isplitl [Hb]; · iexact Hb
    iexact Hs1
  iintro ⟨Hx, Hf1⟩
  iapply (wpT_step d L)
  iapply (wpT_bind d L)
  iapply (Scf.wp_for frame (wpE (defs₀ (F := F)) 𝒱₀ (vt d L) none) Set.univ k0_t3_loop.lb k0_t3_loop.ub k0_t3_loop.st k0_t3_ok ⟨⟩ _
    (fun n _ => Pairs d L X SC NO (XRows 0 256) fo O W (32 * wid L) (32 * wid L + 32) (32 * wid L + 2 * n)) (pair_first d L X SC NO fo O W v1 c0))
  isplitl [Hx Hf0 Hf1 Ht HO]
  · isplitr; · iexact Hmw
    isplitl [Hx]; · iexact Hx
    isplitl [Hf0]; · iexact Hf0
    isplitl [Hf1]; · iexact Hf1
    isplitr
    · iapply (Entails.of_eq (show (iprop(emp) : sProp 𝕄) = (oLoc d ↦[Rows (32 * wid L) (32 * wid L + 2 * 0)]{fullShare} (outVal X SC NO : Buf (Elt F) (oLoc d))) by
        rw [show 32 * wid L + 2 * 0 = 32 * wid L by omega, Rows_self, pointsTo_empty]))
      iempintro
    isplitl [Ht]; · iexact Ht
    iexists W₁
    isplitr
    swap; · iexact HO
    ipureintro; exact hW
  iintro %u H
  iapply (wpT_ret d L)
  iexact H

/-- The first part computes scalars only. -/
theorem wp_scalars : (iprop(emp) : sProp 𝕄)
    ⊢ wpT (F := F) d L (k0_part79 L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1) fun _ => iprop(emp) := by
  rw [k0_part79_eq_skeleton]; unfold k0_part79_skel
  exact wpT_ret d L _ (fun _ => iprop(emp))

set_option maxHeartbeats 2000000 in
/-- The task: from shares of the three operands, its rows of the output and its scratch, to its rows written with the result's
    values, the scratch and the semaphores as a task must leave them. -/
theorem wp_task (X : S1024x8x128.Idx → F .f32) (SC NO : S32x128.Idx → F .f32) (q : PosShare TreeShare) (fo : Buf (Elt F) (oLoc d))
    (O : CellTallies nD τ sig (HIx 1)) (W : Waits sig (HIx 1)) :
    iprop(Transfers.MayWaits (vt d L) (default : HIx 1) O
        ∗ (xLoc d ↦{q} (X : Buf (Elt F) (xLoc d))) ∗ (sLoc d ↦{q} (SC : Buf (Elt F) (sLoc d))) ∗ (nLoc d ↦{q} (NO : Buf (Elt F) (nLoc d)))
        ∗ (oLoc d ↦[Rows (32 * wid L) (32 * wid L + 32)]{fullShare} fo)
        ∗ (∃ f, (xB).view.loc (vt d L) ↦{fullShare} f) ∗ (∃ f, (sB).view.loc (vt d L) ↦{fullShare} f) ∗ (∃ f, (nB).view.loc (vt d L) ↦{fullShare} f)
        ∗ (∃ f, (ob0).view.loc (vt d L) ↦{fullShare} f) ∗ (∃ f, (ob1).view.loc (vt d L) ↦{fullShare} f)
        ∗ semVal (vt d L, .dma cc0_scratch5.sem) 0 ∗ semVal (vt d L, .dma cc0_scratch6.sem) 0
        ∗ semVal (vt d L, .dma cc0_scratch7.sem) 0 ∗ semVal (vt d L, .dma cc0_scratch8.sem) 0
        ∗ semVal (vt d L, .dma cc0_scoped0.sem) 0 ∗ semVal (vt d L, .dma cc0_scoped1.sem) 0 ∗ owes (vt d L) O W)
      ⊢ wpT d L (cc0__encode L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1) fun _ => iprop(
        (oLoc d ↦[Rows (32 * wid L) (32 * wid L + 32)]{fullShare} (outVal X SC NO : Buf (Elt F) (oLoc d)))
        ∗ (∃ f, (xB).view.loc (vt d L) ↦{fullShare} f) ∗ (∃ f, (sB).view.loc (vt d L) ↦{fullShare} f) ∗ (∃ f, (nB).view.loc (vt d L) ↦{fullShare} f)
        ∗ (∃ f, (ob0).view.loc (vt d L) ↦{fullShare} f) ∗ (∃ f, (ob1).view.loc (vt d L) ↦{fullShare} f)
        ∗ semVal (vt d L, .dma cc0_scratch5.sem) 0 ∗ semVal (vt d L, .dma cc0_scratch6.sem) 0
        ∗ semVal (vt d L, .dma cc0_scratch7.sem) 0 ∗ semVal (vt d L, .dma cc0_scratch8.sem) 0
        ∗ semVal (vt d L, .dma cc0_scoped0.sem) 0 ∗ semVal (vt d L, .dma cc0_scoped1.sem) 0
        ∗ ∃ W', ⌜OwnWaits W W'⌝ ∗ owes (vt d L) O W') := by
  rw [cc0__encode_eq_skeleton]; unfold cc0__encode_skel
  iintro ⟨#Hmw, Hx, Hs, Hn, Ho, Hxb, Hsb, Hnb, ⟨%g0, Hb0⟩, ⟨%g1, Hb1⟩, Hs5, Hs6, Hs7, Hs8, Hr0, Hr1, HO⟩
  -- the scalars the offsets are computed from
  iapply (wpT_bind d L)
  iapply (wp_wand_r frame _ Set.univ)
  isplitr
  · iapply (wp_scalars d L)
    iempintro
  iintro %r0 -
  obtain ⟨w1, w35, w37, w38, w0⟩ := r0
  -- the fetches
  iapply (wpT_bind d L)
  iapply (wp_wand_r frame _ Set.univ)
  isplitl [Hx Hs Hn Hxb Hsb Hnb Hs7 Hs8 Hr0 Hr1 HO]
  · iapply (wp_fetch d L X SC NO q O W _ _ _ _)
    isplitr; · iexact Hmw
    isplitl [Hx]; · iexact Hx
    isplitl [Hs]; · iexact Hs
    isplitl [Hn]; · iexact Hn
    isplitl [Hxb]; · iexact Hxb
    isplitl [Hsb]; · iexact Hsb
    isplitl [Hnb]; · iexact Hnb
    isplitl [Hs7]; · iexact Hs7
    isplitl [Hs8]; · iexact Hs8
    isplitl [Hr0]; · iexact Hr0
    isplitl [Hr1]; · iexact Hr1
    iexact HO
  iintro %u1 ⟨Hfa, Hfb, Hsb, Hnb, Hr0, Hr1, ⟨%W₁, %hW₁, HO⟩⟩
  iapply (wpT_bind d L)
  iapply (wp_wand_r frame _ Set.univ)
  isplitl [Hfa Hsb Hnb HO]
  · iapply (wp_lanes d L X SC NO O W W₁ hW₁)
    isplitr; · iexact Hmw
    isplitl [Hfa]; · iexact Hfa
    isplitl [Hsb]; · iexact Hsb
    isplitl [Hnb]; · iexact Hnb
    iexact HO
  iintro %r ⟨%hr, Hxa, Hs7, Hsb, Hnb, ⟨%W₂, %hW₂, HO⟩⟩
  subst hr
  iapply (wpT_bind d L)
  iapply (wp_wand_r frame _ Set.univ)
  isplitl [Hxa Hb0 Hb1 Hs5 Hs6 Ho HO]
  · iapply (wp_firstHalf d L X SC NO fo O W W₂ hW₂ _ _)
    isplitr; · iexact Hmw
    isplitl [Hxa]; · iexact Hxa
    isplitl [Hb0]; · iexists g0; iapply (Entails.of_eq (congrArg (fun A => ((ob0).view.loc (vt d L) ↦[A]{fullShare} g0 : sProp 𝕄)) (show (ob0).view.set = Finset.univ from View.set_whole _).symm)) $$ Hb0
    isplitl [Hb1]; · iexists g1; iapply (Entails.of_eq (congrArg (fun A => ((ob1).view.loc (vt d L) ↦[A]{fullShare} g1 : sProp 𝕄)) (show (ob1).view.set = Finset.univ from View.set_whole _).symm)) $$ Hb1
    isplitl [Hs5]; · iexact Hs5
    isplitl [Hs6]; · iexact Hs6
    isplitl [Ho]; · iexact Ho
    iexact HO
  iintro %u2 ⟨-, Hxa, Hf0, Hf1, Hd, Ht, ⟨%W₃, %hW₃, HO⟩⟩
  -- the second half of the slab
  iapply (Transfers.wp_waitLocalO countersEmb 𝒱₀ (vt d L) none (default : HIx 1) (rfl : xHalf1.view.dmaCredit = _)) $$ [Hfb HO]
  · isplitl [Hfb]; · iexact Hfb
    isplitl [HO]; · iexact HO
    iapply (Transfers.MayWaits.elim (SemLoc.dma cc0_scratch8.sem)) $$ Hmw
  iintro ⟨Hxc, Hs8, HO⟩
  iapply (wpT_step d L)
  iapply (wpT_bind d L)
  iapply (Scf.wp_for frame (wpE (defs₀ (F := F)) 𝒱₀ (vt d L) none) Set.univ k0_t6_loop.lb k0_t6_loop.ub k0_t6_loop.st k0_t6_ok ⟨⟩ _
    (fun n _ => Pairs d L X SC NO (XRows 256 512) fo O W (32 * wid L) (32 * wid L + 32) (32 * wid L + 14 + 2 * n)) (pair_second d L X SC NO fo O W))
  isplitl [Hxc Hf0 Hf1 Hd Ht HO]
  · isplitr; · iexact Hmw
    isplitl [Hxc]; · iexact Hxc
    isplitl [Hf0]; · iexact Hf0
    isplitl [Hf1]; · iexact Hf1
    isplitl [Hd]; · iexact Hd
    isplitl [Ht]; · iexact Ht
    iexists _
    isplitr
    swap; · iexact HO
    ipureintro; exact hW₃.insert _
  iintro %u3 ⟨-, Hxc, Hf0, Hf1, Hd, -, ⟨%W₄, %hW₄, HO⟩⟩
  -- the last two copies
  iapply (Transfers.wp_waitLocalO countersEmb 𝒱₀ (vt d L) none (default : HIx 1) (rfl : oAny.view.dmaCredit = _)) $$ [Hf0 HO]
  · isplitl [Hf0]; · iexact Hf0
    isplitl [HO]; · iexact HO
    iapply (Transfers.MayWaits.elim (SemLoc.dma cc0_scratch5.sem)) $$ Hmw
  iintro ⟨⟨Hl0, ⟨%g0', Hb0⟩⟩, Hs5, HO⟩
  iapply (Transfers.wp_waitLocalO countersEmb 𝒱₀ (vt d L) none (default : HIx 1) (rfl : oAny.view.dmaCredit = _)) $$ [Hf1 HO]
  · isplitl [Hf1]; · iexact Hf1
    isplitl [HO]; · iexact HO
    iapply (Transfers.MayWaits.elim (SemLoc.dma cc0_scratch6.sem)) $$ Hmw
  iintro ⟨⟨Hl1, ⟨%g1', Hb1⟩⟩, Hs6, HO⟩
  iapply (wpT_ret d L)
  isplitl [Hd Hl0 Hl1]
  · iapply (Entails.of_eq (congrArg (fun A => (oLoc d ↦[A]{fullShare} (outVal X SC NO : Buf (Elt F) (oLoc d)) : sProp 𝕄)) (Rows_union (show 32 * wid L ≤ 32 * wid L + 31 by omega) (show 32 * wid L + 31 ≤ 32 * wid L + 32 by omega)).symm))
    iapply (pointsTo_union (Rows_disjoint (le_refl _))).2
    isplitl [Hd Hl0]
    · iapply (Entails.of_eq (congrArg (fun A => (oLoc d ↦[A]{fullShare} (outVal X SC NO : Buf (Elt F) (oLoc d)) : sProp 𝕄)) (Rows_union (show 32 * wid L ≤ 32 * wid L + 30 by omega) (show 32 * wid L + 30 ≤ 32 * wid L + 31 by omega)).symm))
      iapply (pointsTo_union (Rows_disjoint (le_refl _))).2
      isplitl [Hd]
      · iexact Hd
      · iexact Hl0
    · iexact Hl1
  isplitl [Hxa Hxc]
  · iexists (stagedX L X : Buf (Elt F) ((xB).view.loc (vt d L)))
    iapply (Entails.of_eq (congrArg (fun A => ((xB).view.loc (vt d L) ↦[A]{fullShare} (stagedX L X : Buf (Elt F) ((xB).view.loc (vt d L))) : sProp 𝕄)) XRows_univ).symm)
    iapply (pointsTo_union XRows_disjoint).2
    isplitl [Hxa]
    · iexact Hxa
    · iexact Hxc
  isplitl [Hsb]; · iexists _; iexact Hsb
  isplitl [Hnb]; · iexists _; iexact Hnb
  isplitl [Hb0]; · iexists g0'; iapply (Entails.of_eq (congrArg (fun A => ((ob0).view.loc (vt d L) ↦[A]{fullShare} g0' : sProp 𝕄)) (show (ob0).view.set = Finset.univ from View.set_whole _))) $$ Hb0
  isplitl [Hb1]; · iexists g1'; iapply (Entails.of_eq (congrArg (fun A => ((ob1).view.loc (vt d L) ↦[A]{fullShare} g1' : sProp 𝕄)) (show (ob1).view.set = Finset.univ from View.set_whole _))) $$ Hb1
  isplitl [Hs5]; · iexact Hs5
  isplitl [Hs6]; · iexact Hs6
  isplitl [Hs7]; · iexact Hs7
  isplitl [Hs8]; · iexact Hs8
  isplitl [Hr0]; · iexact Hr0
  isplitl [Hr1]; · iexact Hr1
  iexists _
  isplitr
  swap; · iexact HO
  ipureintro; exact (hW₄.insert _).insert _

end Cert.Proof.Encode
-- ==== Proof.Task.lean ====
/-
  The call's obligation. What each of the thirty-two tasks is handed and hands back, the buffers and semaphores a vector
  subcore owns, and the task's triple put in the form the launch theorem asks for.
-/
module

public import proofs.«01_k».proof.Proof.Tile
public import Idealize.ShloMosaic.Lib.SparseCore.Quiescent

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx ownRefs ownCells ownBufs ownSems0 mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v17_scv : Memref Cert.KernelIdeal.sig Kind.scVector Space.hbm Cert.KernelIdeal.S1024x8x128 EltTy.f32)
local notation "sV" => (Memref.whole Cert.KernelIdeal.main_v10_scv : Memref Cert.KernelIdeal.sig Kind.scVector Space.hbm Cert.KernelIdeal.S32x128 EltTy.f32)
local notation "nV" => (Memref.whole Cert.KernelIdeal.main_v14_scv : Memref Cert.KernelIdeal.sig Kind.scVector Space.hbm Cert.KernelIdeal.S32x128 EltTy.f32)
local notation "oV" => (Memref.whole Cert.KernelIdeal.main_v18_scv : Memref Cert.KernelIdeal.sig Kind.scVector Space.hbm Cert.KernelIdeal.S131072x128 EltTy.f32)
local notation "xB" => (Memref.whole Cert.KernelIdeal.cc0_scratch0 : Memref Cert.KernelIdeal.sig Kind.scVector Space.vmem Cert.KernelIdeal.S512x1x128 EltTy.f32)
local notation "sB" => (Memref.whole Cert.KernelIdeal.cc0_scratch1 : Memref Cert.KernelIdeal.sig Kind.scVector Space.vmem Cert.KernelIdeal.S1x128 EltTy.f32)
local notation "nB" => (Memref.whole Cert.KernelIdeal.cc0_scratch2 : Memref Cert.KernelIdeal.sig Kind.scVector Space.vmem Cert.KernelIdeal.S1x128 EltTy.f32)
local notation "ob0" => (Memref.whole Cert.KernelIdeal.cc0_scratch3 : Memref Cert.KernelIdeal.sig Kind.scVector Space.vmem Cert.KernelIdeal.S128x128 EltTy.f32)
local notation "ob1" => (Memref.whole Cert.KernelIdeal.cc0_scratch4 : Memref Cert.KernelIdeal.sig Kind.scVector Space.vmem Cert.KernelIdeal.S128x128 EltTy.f32)

/-! ## What a vector subcore owns -/

section Owned
variable (d : Dev nD) (L : grid0.Coords)

/-- A transfer semaphore of the task's subcore. -/
abbrev dcell (sm : DmaSem sig) : GSem nD τ sig := (vt d L, .dma sm)

omit [FloatOps F] in
theorem own_dcell {sm : DmaSem sig} (h : (SemLoc.dma sm : SemLoc sig).isScoped .scVector = true) : dcell d L sm ∈ ownCells (vt d L) :=
  mem_ownCells.mpr ⟨rfl, h⟩

theorem dcell_ne {s s' : DmaSem sig} (h : s ≠ s') : dcell d L s ≠ dcell d L s' := by
  intro e; exact h (SemLoc.dma.inj (congrArg Prod.snd e))

/-- The six semaphores of the kernel are among the subcore's own. -/
theorem ownSems0_vt :
    ∃ R : sProp 𝕄, (ownSems0 (vt d L) : sProp 𝕄)
      = iprop(semVal (vt d L, .dma cc0_scratch5.sem) 0 ∗ semVal (vt d L, .dma cc0_scratch6.sem) 0 ∗ semVal (vt d L, .dma cc0_scratch7.sem) 0
        ∗ semVal (vt d L, .dma cc0_scratch8.sem) 0 ∗ semVal (vt d L, .dma cc0_scoped0.sem) 0 ∗ semVal (vt d L, .dma cc0_scoped1.sem) 0 ∗ R) := by
  refine ⟨bigSep (((((((ownCells (vt d L)).erase (dcell d L cc0_scratch5.sem)).erase (dcell d L cc0_scratch6.sem)).erase (dcell d L cc0_scratch7.sem)).erase
    (dcell d L cc0_scratch8.sem)).erase (dcell d L cc0_scoped0.sem)).erase (dcell d L cc0_scoped1.sem)) fun g => semVal g 0, ?_⟩
  unfold SparseCore.Cfg.ownSems0
  rw [SparseCore.bigSep_erase' (own_dcell d L (sm := cc0_scratch5.sem) (by decide)),
    SparseCore.bigSep_erase' (i := dcell d L cc0_scratch6.sem) (by
      simp only [Finset.mem_erase]; exact ⟨dcell_ne d L (by decide), own_dcell d L (by decide)⟩),
    SparseCore.bigSep_erase' (i := dcell d L cc0_scratch7.sem) (by
      simp only [Finset.mem_erase]; exact ⟨dcell_ne d L (by decide), dcell_ne d L (by decide), own_dcell d L (by decide)⟩),
    SparseCore.bigSep_erase' (i := dcell d L cc0_scratch8.sem) (by
      simp only [Finset.mem_erase]
      exact ⟨dcell_ne d L (by decide), dcell_ne d L (by decide), dcell_ne d L (by decide), own_dcell d L (by decide)⟩),
    SparseCore.bigSep_erase' (i := dcell d L cc0_scoped0.sem) (by
      simp only [Finset.mem_erase]
      exact ⟨dcell_ne d L (by decide), dcell_ne d L (by decide), dcell_ne d L (by decide), dcell_ne d L (by decide), own_dcell d L (by decide)⟩),
    SparseCore.bigSep_erase' (i := dcell d L cc0_scoped1.sem) (by
      simp only [Finset.mem_erase]
      exact ⟨dcell_ne d L (by decide), dcell_ne d L (by decide), dcell_ne d L (by decide), dcell_ne d L (by decide), dcell_ne d L (by decide),
        own_dcell d L (by decide)⟩)]

/-- A buffer of the task's subcore. -/
abbrev bref (b : Ref sig .scVector) : DevRef τ sig := (Proc.scVector (cV L) (jV L)).devRef b

theorem bref_ne {b b' : Ref sig .scVector} (h : b ≠ b') : bref L b ≠ bref L b' :=
  fun e => h (Proc.devRef_injective _ e)

/-- The five buffers of the kernel are among the subcore's own, at some contents. -/
theorem ownBufs_vt :
    ∃ R : sProp 𝕄, (ownBufs (vt d L) : sProp 𝕄)
      = iprop((∃ f, (xB).view.loc (vt d L) ↦{fullShare} f) ∗ (∃ f, (sB).view.loc (vt d L) ↦{fullShare} f) ∗ (∃ f, (nB).view.loc (vt d L) ↦{fullShare} f)
        ∗ (∃ f, (ob0).view.loc (vt d L) ↦{fullShare} f) ∗ (∃ f, (ob1).view.loc (vt d L) ↦{fullShare} f) ∗ R) := by
  have own := fun (b : Ref sig .scVector) => SparseCore.Cfg.mem_ownRefs_of_owner (p := Proc.scVector (cV L) (jV L)) (b := bref L b)
  refine ⟨bigSep (((((ownRefs (τ := τ) (.scVector (cV L) (jV L))).erase (bref L cc0_scratch0)).erase (bref L cc0_scratch1)).erase (bref L cc0_scratch2)).erase
    (bref L cc0_scratch3) |>.erase (bref L cc0_scratch4)) fun b => iprop(∃ f, ((d, b) : Loc nD τ sig) ↦{fullShare} f), ?_⟩
  unfold SparseCore.Cfg.ownBufs
  refine (SparseCore.bigSep_erase' (own cc0_scratch0 rfl)).trans ?_
  rw [SparseCore.bigSep_erase' (i := bref L cc0_scratch1) (by
      simp only [Finset.mem_erase]; exact ⟨bref_ne L (by decide), own _ rfl⟩),
    SparseCore.bigSep_erase' (i := bref L cc0_scratch2) (by
      simp only [Finset.mem_erase]; exact ⟨bref_ne L (by decide), bref_ne L (by decide), own _ rfl⟩),
    SparseCore.bigSep_erase' (i := bref L cc0_scratch3) (by
      simp only [Finset.mem_erase]; exact ⟨bref_ne L (by decide), bref_ne L (by decide), bref_ne L (by decide), own _ rfl⟩),
    SparseCore.bigSep_erase' (i := bref L cc0_scratch4) (by
      simp only [Finset.mem_erase]
      exact ⟨bref_ne L (by decide), bref_ne L (by decide), bref_ne L (by decide), bref_ne L (by decide), own _ rfl⟩)]

end Owned

/-! ## What the call hands over -/

/-- The call's three operands on each device, and what its result array holds before the call. -/
structure Operands (F : FTy → Type) where
  X : Dev nD → S1024x8x128.Idx → F .f32
  SC : Dev nD → S32x128.Idx → F .f32
  NO : Dev nD → S32x128.Idx → F .f32
  old : Dev nD → S131072x128.Idx → F .f32

variable (A : Operands F)

/-- Core `c`'s subcore `i`'s share of an operand. -/
def taskShare (c : Fin 2) (i : Fin 16) : PosShare TreeShare :=
  Transfers.dealOf (Transfers.dealOf fullShare Finset.univ c) Finset.univ i

/-- The result's rows that core `c`'s subcore `i` writes. -/
abbrev taskRows (c : Fin 2) (i : Fin 16) : Finset S131072x128.Idx := Rows (32 * (2 * i.val + c.val)) (32 * (2 * i.val + c.val) + 32)

/-- What a task is handed: its share of each operand, and its rows of the result, -/
def handed (d : Dev nD) (c : Fin 2) (i : Fin 16) : sProp 𝕄 :=
  iprop((xLoc d ↦{taskShare c i} (A.X d : Buf (Elt F) (xLoc d))) ∗ (sLoc d ↦{taskShare c i} (A.SC d : Buf (Elt F) (sLoc d)))
    ∗ (nLoc d ↦{taskShare c i} (A.NO d : Buf (Elt F) (nLoc d))) ∗ (oLoc d ↦[taskRows c i]{fullShare} (A.old d : Buf (Elt F) (oLoc d))))

/-- and what it hands back: the rows, holding the encoding. -/
def handedBack (d : Dev nD) (c : Fin 2) (i : Fin 16) : sProp 𝕄 :=
  iprop(oLoc d ↦[taskRows c i]{fullShare} (outVal (A.X d) (A.SC d) (A.NO d) : Buf (Elt F) (oLoc d)))

/-- The call takes what its tasks are handed and brings what they hand back. -/
def P : (K (F := F)).Pay (nD := nD) (Val := Elt F) (Name := ℕ) (U := UU) where
  st := fun q d c => match q with | 0 => bigSep Finset.univ fun i : Fin 16 => handed A d c i
  dn := fun q d c => match q with | 0 => bigSep Finset.univ fun i : Fin 16 => handedBack A d c i
  go := fun q d c i => match q with | 0 => handed A d c i
  td := fun q d c i => match q with | 0 => handedBack A d c i
  x := fun _ _ => iprop(emp)

instance storable_handed (d : Dev nD) (c : Fin 2) (i : Fin 16) : BI.Storable (upEmb : UEmb _ 𝕄) (handed A d c i) := by
  unfold handed; infer_instance
instance storable_handedBack (d : Dev nD) (c : Fin 2) (i : Fin 16) : BI.Storable (upEmb : UEmb _ 𝕄) (handedBack A d c i) := by
  unfold handedBack; infer_instance

instance P_storable : (P A).IsStorable where
  st q d c := match q with
    | 0 => (inferInstance : BI.Storable (upEmb : UEmb _ 𝕄) (bigSep Finset.univ fun i : Fin 16 => handed A d c i))
  dn q d c := match q with
    | 0 => (inferInstance : BI.Storable (upEmb : UEmb _ 𝕄) (bigSep Finset.univ fun i : Fin 16 => handedBack A d c i))
  go q d c i := match q with | 0 => storable_handed A d c i
  td q d c i := match q with | 0 => storable_handedBack A d c i

/-- Splitting the call's hand-over among a core's subcores is nothing: it is stated as theirs. -/
theorem vecSplit : (K (F := F)).VecSplit' (P A) 0 := by
  intro d c
  show (bigSep Finset.univ fun i : Fin 16 => handed A d c i) ⊢ |={Set.univ}=> iprop(
      (bigSep Finset.univ fun i : Fin 16 => handed A d c i)
      ∗ ((bigSep Finset.univ fun i : Fin 16 => handedBack A d c i) -∗ bigSep Finset.univ fun i : Fin 16 => handedBack A d c i))
  iintro H; imodintro
  isplitl [H]; · iexact H
  iintro H; iexact H

/-! ## The obligation -/

/-- The task at a place of the grid, from what it is handed and what its subcore owns. -/
theorem tile_body (d : Dev nD) (L : grid0.Coords) (hF : (K (F := F)).Facts) (O : CellTallies nD τ sig (HIx 1)) (W : Waits sig (HIx 1))
    (hO : ∀ g, O g none = 0) :
    iprop(levAts (K (F := F)).L (K (F := F)).lev ∗ emp ∗ handed A d (L 0) (L 1)
        ∗ scopedBufs (vt d L) ∗ scopedSems0 (vt d L) ∗ owes (vt d L) O W)
      ⊢ wpT d L (cc0__encode L xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1)
          fun _ => iprop(handedBack A d (L 0) (L 1) ∗ scopedBufs (vt d L) ∗ scopedSems0 (vt d L)
            ∗ ∃ W', ⌜∀ p ∈ W', p ∈ W ∨ p.2 = none⌝ ∗ owes (vt d L) O W') := by
  obtain ⟨R, hR⟩ := ownSems0_vt (F := F) d L
  obtain ⟨R', hR'⟩ := ownBufs_vt (F := F) d L
  rw [(K (F := F)).scopedBufs_V hF d (cV L) (jV L), SparseCore.Cfg.scopedSems0_V (Val := Elt F) d (cV L) (jV L), hR, hR']
  unfold handed handedBack
  iintro ⟨#Hlv, -, ⟨Hx, Hs, Hn, Ho⟩, ⟨Hxb, Hsb, Hnb, Hb0, Hb1, HR'⟩, ⟨H5, H6, H7, H8, H9, H10, HR⟩, HO⟩
  ihave Hmw := (show levAts (K (F := F)).L (K (F := F)).lev ⊢ Transfers.MayWaits (vt d L) (default : HIx 1) O from
    (K (F := F)).mayWaits_none (thr := vt d L) hO) $$ Hlv
  iapply (wp_wand_r frame _ Set.univ)
  isplitr [HR' HR]
  · iapply (wp_task d L (A.X d) (A.SC d) (A.NO d) (taskShare (L 0) (L 1)) (A.old d) O W)
    isplitl [Hmw]; · iexact Hmw
    isplitl [Hx]; · iexact Hx
    isplitl [Hs]; · iexact Hs
    isplitl [Hn]; · iexact Hn
    isplitl [Ho]; · iexact Ho
    isplitl [Hxb]; · iexact Hxb
    isplitl [Hsb]; · iexact Hsb
    isplitl [Hnb]; · iexact Hnb
    isplitl [Hb0]; · iexact Hb0
    isplitl [Hb1]; · iexact Hb1
    isplitl [H5]; · iexact H5
    isplitl [H6]; · iexact H6
    isplitl [H7]; · iexact H7
    isplitl [H8]; · iexact H8
    isplitl [H9]; · iexact H9
    isplitl [H10]; · iexact H10
    iexact HO
  iintro %_ ⟨Ho, Hxb, Hsb, Hnb, Hb0, Hb1, H5, H6, H7, H8, H9, H10, HO⟩
  isplitl [Ho]; · iexact Ho
  isplitl [Hxb Hsb Hnb Hb0 Hb1 HR']
  · isplitl [Hxb]; · iexact Hxb
    isplitl [Hsb]; · iexact Hsb
    isplitl [Hnb]; · iexact Hnb
    isplitl [Hb0]; · iexact Hb0
    isplitl [Hb1]; · iexact Hb1
    iexact HR'
  isplitl [H5 H6 H7 H8 H9 H10 HR]
  · isplitl [H5]; · iexact H5
    isplitl [H6]; · iexact H6
    isplitl [H7]; · iexact H7
    isplitl [H8]; · iexact H8
    isplitl [H9]; · iexact H9
    isplitl [H10]; · iexact H10
    iexact HR
  iexact HO

/-- The place of the grid that core `c`'s subcore `s` runs. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__encode (coordsV c s)
          xV (Memref.isWhole_whole _) sV (Memref.isWhole_whole _) nV (Memref.isWhole_whole _) oV (Memref.isWhole_whole _)
          xB (Memref.isWhole_whole _) sB (Memref.isWhole_whole _) nB (Memref.isWhole_whole _) ob0 (Memref.isWhole_whole _) ob1 (Memref.isWhole_whole _)
          cc0_scratch5 cc0_scratch6 cc0_scratch7 cc0_scratch8 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch theorem asks of the call's tasks. -/
theorem tileObl (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A d (coordsV ⟨_, hci.1⟩ ⟨_, hci.2⟩) hF O W hO).trans (wp_mono frame _ _ fun _ => obl_post)

end Cert.Proof.Encode
-- ==== Proof.Host.lean ====
/-
  The program around the call, as two lists of array operations: what prepares the call's operands from the arguments, and
  what turns its result into the program's. Each array's value is read back as a function of the two arguments.
-/
module

public import proofs.«01_k».proof.Proof.Task
public import Idealize.ShloMosaic.Lib.StableHlo.Run
public import Idealize.ShloMosaic.Lib.Pipeline.Frame

@[expose] public section

noncomputable section

namespace Cert.Proof.Encode

open Cert.KernelIdeal Cert.KernelIdeal.Gen
open Idealize.ShloMosaic Idealize.ShloMosaic.TcCoe Idealize.ShloMosaic.StableHlo
open Idealize.SL Idealize.SL.Sem

variable {F : FTy → Type} [FloatOps F]

/-! ## The values -/

/-- The left edges of the bins, -/
def leftsOf (e : FVec F S16x17 .f32) : FVec F S16x16 .f32 := extractStridedSlice S16x16 ![0, 0] e slices_S16x17_S16x16_0_0
/-- the reciprocals of their widths, -/
def scaleOf (e : FVec F S16x17 .f32) : FVec F S16x16 .f32 :=
  Host.divf (broadcastInDim S16x16 ![] bcast_S_S16x16 (constant S_ .f32 0x3F800000#32))
    (subf (extractStridedSlice S16x16 ![0, 1] e slices_S16x17_S16x16_0_1) (leftsOf e))
/-- and the offsets. -/
def noffOf (e : FVec F S16x17 .f32) : FVec F S16x16 .f32 := mulf (Host.negf (leftsOf e)) (scaleOf e)

/-- A table of bins laid out for the tasks: one row a half feature, each bin repeated over sixteen lanes. -/
def lanesOf (t : FVec F S16x16 .f32) : FVec F S32x128 .f32 :=
  shapeCast S32x128 (shapeCast S16x2x128 (broadcastInDim S16x2x8x16 ![0, 1, 2] bcast_S16x2x8_S16x2x8x16_0_1_2
    (shapeCast S16x2x8 t shapeCasts_S16x16_S16x2x8)) shapeCasts_S16x2x8x16_S16x2x128) shapeCasts_S16x2x128_S32x128

/-- The inputs laid out for the tasks. -/
def slabsOf (x : FVec F S65536x16 .f32) : FVec F S1024x8x128 .f32 :=
  shapeCast S1024x8x128 (transpose S2x512x8x128 [2, 0, 3, 1] (shapeCast S512x128x2x8 x shapeCasts_S65536x16_S512x128x2x8)
    transposes_S512x128x2x8_S2x512x8x128_2_0_3_1) shapeCasts_S2x512x8x128_S1024x8x128

/-- The call's result laid out as the program's. -/
def unslab (y : FVec F S131072x128 .f32) : FVec F S65536x16x16 .f32 :=
  shapeCast S65536x16x16 (transpose S512x128x16x2x8 [2, 4, 0, 1, 3] (shapeCast S16x2x512x8x128 y shapeCasts_S131072x128_S16x2x512x8x128)
    transposes_S16x2x512x8x128_S512x128x16x2x8_2_4_0_1_3) shapeCasts_S512x128x16x2x8_S65536x16x16

/-- What the program computes of its two arguments. -/
def kernelOut (x : FVec F S65536x16 .f32) (e : FVec F S16x17 .f32) : FVec F S65536x16x16 .f32 :=
  unslab (outVal (slabsOf x) (lanesOf (scaleOf e)) (lanesOf (noffOf e)))

/-! ## The operations -/

/-- Before the call. -/
abbrev preOps : List (HloOp τ sig (Elt F)) :=
  [ unary main_arg1 main_v0 ((extractStridedSlice S16x16 ![0, 0] · slices_S16x17_S16x16_0_0) : (⟨S16x17, .f32⟩ : BufTy).Contents (Elt F) → (⟨S16x16, .f32⟩ : BufTy).Contents (Elt F)),
    unary main_arg1 main_v1 ((extractStridedSlice S16x16 ![0, 1] · slices_S16x17_S16x16_0_1) : (⟨S16x17, .f32⟩ : BufTy).Contents (Elt F) → (⟨S16x16, .f32⟩ : BufTy).Contents (Elt F)),
    binary main_v1 main_v0 main_v2 (subf : (⟨S16x16, .f32⟩ : BufTy).Contents (Elt F) → (⟨S16x16, .f32⟩ : BufTy).Contents (Elt F) → (⟨S16x16, .f32⟩ : BufTy).Contents (Elt F)),
    nullary main_cst (constant S_ .f32 0x3F800000#32),
    unary main_cst main_v3 (broadcastInDim S16x16 ![] bcast_S_S16x16 : (⟨S_, .f32⟩ : BufTy).Contents (Elt F) → (⟨S16x16, .f32⟩ : BufTy).Contents (Elt F)),
    binary main_v3 main_v2 main_v4 (Host.divf : (⟨S16x16, .f32⟩ : BufTy).Contents (Elt F) → (⟨S16x16, .f32⟩ : BufTy).Contents (Elt F) → (⟨S16x16, .f32⟩ : BufTy).Contents (Elt F)),
    unary main_v0 main_v5 (Host.negf : (⟨S16x16, .f32⟩ : BufTy).Contents (Elt F) → (⟨S16x16, .f32⟩ : BufTy).Contents (Elt F)),
    binary main_v5 main_v4 main_v6 (mulf : (⟨S16x16, .f32⟩ : BufTy).Contents (Elt F) → (⟨S16x16, .f32⟩ : BufTy).Contents (Elt F) → (⟨S16x16, .f32⟩ : BufTy).Contents (Elt F)),
    reshape main_v4 main_v7 (rfl : (.f32 : EltTy) = .f32) shapeCasts_S16x16_S16x2x8,
    unary main_v7 main_v8 (broadcastInDim S16x2x8x16 ![0, 1, 2] bcast_S16x2x8_S16x2x8x16_0_1_2 : (⟨S16x2x8, .f32⟩ : BufTy).Contents (Elt F) → (⟨S16x2x8x16, .f32⟩ : BufTy).Contents (Elt F)),
    reshape main_v8 main_v9 (rfl : (.f32 : EltTy) = .f32) shapeCasts_S16x2x8x16_S16x2x128,
    reshape main_v9 main_v10 (rfl : (.f32 : EltTy) = .f32) shapeCasts_S16x2x128_S32x128,
    reshape main_v6 main_v11 (rfl : (.f32 : EltTy) = .f32) shapeCasts_S16x16_S16x2x8,
    unary main_v11 main_v12 (broadcastInDim S16x2x8x16 ![0, 1, 2] bcast_S16x2x8_S16x2x8x16_0_1_2 : (⟨S16x2x8, .f32⟩ : BufTy).Contents (Elt F) → (⟨S16x2x8x16, .f32⟩ : BufTy).Contents (Elt F)),
    reshape main_v12 main_v13 (rfl : (.f32 : EltTy) = .f32) shapeCasts_S16x2x8x16_S16x2x128,
    reshape main_v13 main_v14 (rfl : (.f32 : EltTy) = .f32) shapeCasts_S16x2x128_S32x128,
    reshape main_arg0 main_v15 (rfl : (.f32 : EltTy) = .f32) shapeCasts_S65536x16_S512x128x2x8,
    unary main_v15 main_v16 ((transpose S2x512x8x128 [2, 0, 3, 1] · transposes_S512x128x2x8_S2x512x8x128_2_0_3_1) : (⟨S512x128x2x8, .f32⟩ : BufTy).Contents (Elt F) → (⟨S2x512x8x128, .f32⟩ : BufTy).Contents (Elt F)),
    reshape main_v16 main_v17 (rfl : (.f32 : EltTy) = .f32) shapeCasts_S2x512x8x128_S1024x8x128 ]

/-- After the call. -/
abbrev postOps : List (HloOp τ sig (Elt F)) :=
  [ reshape main_v18 main_v19 (rfl : (.f32 : EltTy) = .f32) shapeCasts_S131072x128_S16x2x512x8x128,
    unary main_v19 main_v20 ((transpose S512x128x16x2x8 [2, 4, 0, 1, 3] · transposes_S16x2x512x8x128_S512x128x16x2x8_2_4_0_1_3) : (⟨S16x2x512x8x128, .f32⟩ : BufTy).Contents (Elt F) → (⟨S512x128x16x2x8, .f32⟩ : BufTy).Contents (Elt F)),
    reshape main_v20 main_v21 (rfl : (.f32 : EltTy) = .f32) shapeCasts_S512x128x16x2x8_S65536x16x16 ]

set_option maxRecDepth 8192 in
set_option maxHeartbeats 4000000 in
/-- The program is the operations before the call, the call, and the operations after it. -/
theorem main_eq (d : Dev nD) :
    main (F := F) d = (seq preOps >>= fun _ => (sc (F := F)).run d 0 >>= fun _ => seq postOps >>= fun _ => pure ⟨⟩) := by
  rw [seq_bind_seqK, seq_bind_seqK]; rfl

/-- Every operation works on the TensorCore's own arrays. -/
theorem pre_sub : ∀ op ∈ (preOps : List (HloOp τ sig (Elt F))), op.bufs ⊆ Pipeline.ucRefs τ sig := by
  have h : (preOps : List (HloOp τ sig (Elt F))).Forall fun op => op.bufs ⊆ tcRefs τ sig :=
    ⟨unary_bufs_sub .., unary_bufs_sub .., binary_bufs_sub .., nullary_bufs_sub .., unary_bufs_sub .., binary_bufs_sub .., unary_bufs_sub .., binary_bufs_sub .., reshape_bufs_sub .., unary_bufs_sub .., reshape_bufs_sub .., reshape_bufs_sub .., reshape_bufs_sub .., unary_bufs_sub .., reshape_bufs_sub .., reshape_bufs_sub .., reshape_bufs_sub .., unary_bufs_sub .., reshape_bufs_sub ..⟩
  exact fun op hop => Pipeline.sub_ucRefs op (List.forall_iff_forall_mem.mp h op hop)

theorem pre_fresh : ∀ op ∈ (preOps : List (HloOp τ sig (Elt F))), op.fresh = ∅ := by
  intro _ h; (repeat (cases h with | head => rfl | tail _ h => ?_)); exact nomatch h
theorem post_fresh : ∀ op ∈ (postOps : List (HloOp τ sig (Elt F))), op.fresh = ∅ := by
  intro _ h; (repeat (cases h with | head => rfl | tail _ h => ?_)); exact nomatch h

/-! ## The arrays the proof follows -/

abbrev rArg0 : DevRef τ sig := Proc.devRef .tc (main_arg0 : Ref sig .tc)
abbrev rArg1 : DevRef τ sig := Proc.devRef .tc (main_arg1 : Ref sig .tc)
abbrev rX : DevRef τ sig := Proc.devRef .tc (main_v17 : Ref sig .tc)
abbrev rS : DevRef τ sig := Proc.devRef .tc (main_v10 : Ref sig .tc)
abbrev rN : DevRef τ sig := Proc.devRef .tc (main_v14 : Ref sig .tc)
abbrev rO : DevRef τ sig := Proc.devRef .tc (main_v18 : Ref sig .tc)
abbrev rO1 : DevRef τ sig := Proc.devRef .tc (main_v19 : Ref sig .tc)
abbrev rO2 : DevRef τ sig := Proc.devRef .tc (main_v20 : Ref sig .tc)
abbrev rO3 : DevRef τ sig := Proc.devRef .tc (main_v21 : Ref sig .tc)

/-- The arrays of the operations after the call. -/
abbrev Spost : Finset (DevRef τ sig) := {rO, rO1, rO2, rO3}

theorem post_sub : ∀ op ∈ (postOps : List (HloOp τ sig (Elt F))), op.bufs ⊆ Spost := by
  have h : (postOps : List (HloOp τ sig (Elt F))).Forall fun op => op.bufs ⊆ Spost :=
    ⟨show ({rO, rO1} : Finset (DevRef τ sig)) ⊆ Spost by decide, show ({rO1, rO2} : Finset (DevRef τ sig)) ⊆ Spost by decide,
      show ({rO2, rO3} : Finset (DevRef τ sig)) ⊆ Spost by decide⟩
  exact fun op hop => List.forall_iff_forall_mem.mp h op hop

variable (V : Valuation τ sig (Elt F))

theorem pre_arg0 : after preOps V rArg0 = V rArg0 := by
  simp only [preOps]; after_results_simp
theorem pre_arg1 : after preOps V rArg1 = V rArg1 := by
  simp only [preOps]; after_results_simp
theorem pre_X : after preOps V rX = (slabsOf (V rArg0) : FVec F S1024x8x128 .f32) := by
  simp only [preOps]; after_results_simp; rfl
theorem pre_S : after preOps V rS = (lanesOf (scaleOf (V rArg1)) : FVec F S32x128 .f32) := by
  simp only [preOps]; after_results_simp; rfl
theorem pre_N : after preOps V rN = (lanesOf (noffOf (V rArg1)) : FVec F S32x128 .f32) := by
  simp only [preOps]; after_results_simp; rfl
theorem post_O3 : after postOps V rO3 = (unslab (V rO) : FVec F S65536x16x16 .f32) := by
  simp only [postOps]; after_results_simp; rfl

end Cert.Proof.Encode
-- ==== Proof.Launch.lean ====
/-
  The program's run, for any float values. The call's operands are dealt to the thirty-two tasks and its result joined from
  their rows; around the call the array operations run; the arguments end unchanged, the result holds `kernelOut` of them, and
  every semaphore counter reads zero.
-/
module

public import proofs.«01_k».proof.Proof.Host

@[expose] public section

noncomputable section

namespace Cert.Proof.Encode

open Cert.KernelIdeal Cert.KernelIdeal.Gen
open Idealize.ShloMosaic
open Idealize.ShloMosaic.SparseCore (S V T)
open Idealize.ShloMosaic.SparseCore.Cfg (HIx)
open Idealize.ShloMosaic.StableHlo (held after seq wp_seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Dealing the operands, joining the result -/

/-- An array whole is its thirty-two shares. -/
theorem deal_tasks {ℓ : Loc nD τ sig} (f : Buf (Elt F) ℓ) :
    (ℓ ↦{fullShare} f : sProp 𝕄) = bigSep Finset.univ fun c : Fin 2 => bigSep Finset.univ fun i : Fin 16 => ℓ ↦{taskShare c i} f := by
  rw [Transfers.pointsTo_deal (Finset.univ : Finset (Fin 2)) ⟨0, Finset.mem_univ _⟩ fullShare]
  refine bigSep_congr fun c _ => ?_
  exact Transfers.pointsTo_deal (Finset.univ : Finset (Fin 16)) ⟨0, Finset.mem_univ _⟩ _

/-- The result's rows of one core. -/
def coreRows (c : Fin 2) : Finset S131072x128.Idx := Finset.univ.filter fun y => (y 0).val / 4096 % 2 = c.val

theorem mem_taskRows {c : Fin 2} {i : Fin 16} {y : S131072x128.Idx} : y ∈ taskRows c i ↔ (y 0).val / 4096 = 2 * i.val + c.val := by
  rw [mem_Rows]; omega

theorem taskRows_disjoint (c : Fin 2) :
    ∀ i ∈ (Finset.univ : Finset (Fin 16)), ∀ j ∈ (Finset.univ : Finset (Fin 16)), i ≠ j → Disjoint (taskRows c i) (taskRows c j) := by
  intro i _ j _ h
  rw [Finset.disjoint_left]; intro y h1 h2
  rw [mem_taskRows] at h1 h2
  exact h (Fin.ext (by omega))

theorem taskRows_cover (c : Fin 2) : (Finset.univ : Finset (Fin 16)).biUnion (taskRows c) = coreRows c := by
  ext y
  have h0 : (y 0).val < 131072 := (y 0).isLt
  simp only [Finset.mem_biUnion, Finset.mem_univ, true_and, mem_taskRows, coreRows, Finset.mem_filter]
  constructor
  · rintro ⟨i, hi⟩; have := c.isLt; omega
  · intro h; exact ⟨⟨(y 0).val / 4096 / 2, by omega⟩, by show _ = 2 * ((y 0).val / 4096 / 2) + c.val; omega⟩

theorem coreRows_disjoint :
    ∀ c ∈ (Finset.univ : Finset (Fin 2)), ∀ c' ∈ (Finset.univ : Finset (Fin 2)), c ≠ c' → Disjoint (coreRows c) (coreRows c') := by
  intro c _ c' _ h
  rw [Finset.disjoint_left]; intro y h1 h2
  simp only [coreRows, Finset.mem_filter, Finset.mem_univ, true_and] at h1 h2
  exact h (Fin.ext (by omega))

theorem coreRows_cover : (Finset.univ : Finset (Fin 2)).biUnion coreRows = Finset.univ := by
  ext y
  simp only [Finset.mem_biUnion, Finset.mem_univ, true_and, coreRows, Finset.mem_filter, iff_true]
  exact ⟨⟨(y 0).val / 4096 % 2, Nat.mod_lt _ (by decide)⟩, rfl⟩

/-- The result whole is its tasks' rows. -/
theorem join_rows (d : Dev nD) (f : Buf (Elt F) (oLoc d)) :
    (oLoc d ↦{fullShare} f : sProp 𝕄)
      = bigSep Finset.univ fun c : Fin 2 => bigSep Finset.univ fun i : Fin 16 => oLoc d ↦[taskRows c i]{fullShare} f := by
  have h1 : (oLoc d ↦{fullShare} f : sProp 𝕄) = bigSep Finset.univ fun c : Fin 2 => oLoc d ↦[coreRows c]{fullShare} f := by
    rw [← pointsTo_biUnion Finset.univ (ℓ := oLoc d) coreRows coreRows_disjoint, coreRows_cover]
  rw [h1]
  refine bigSep_congr fun c _ => ?_
  rw [← pointsTo_biUnion Finset.univ (ℓ := oLoc d) (taskRows c) (taskRows_disjoint c), taskRows_cover]

variable (A : Operands F)

/-- The call takes its operands and its result array whole, -/
theorem st0_eq (d : Dev nD) :
    (bigSep Finset.univ fun c : Fin ((K (F := F)).nCore 0) => (P A).st 0 d c)
      = iprop((xLoc d ↦{fullShare} (A.X d : Buf (Elt F) (xLoc d))) ∗ (sLoc d ↦{fullShare} (A.SC d : Buf (Elt F) (sLoc d)))
        ∗ (nLoc d ↦{fullShare} (A.NO d : Buf (Elt F) (nLoc d))) ∗ oLoc d ↦{fullShare} (A.old d : Buf (Elt F) (oLoc d))) := by
  show (bigSep (Finset.univ : Finset (Fin 2)) fun c => bigSep Finset.univ fun i : Fin 16 => handed A d c i) = _
  rw [deal_tasks (ℓ := xLoc d), deal_tasks (ℓ := sLoc d), deal_tasks (ℓ := nLoc d), join_rows]
  unfold handed
  rw [bigSep_congr fun c _ => (by rw [bigSep_sep', bigSep_sep', bigSep_sep']), bigSep_sep', bigSep_sep', bigSep_sep']

/-- and brings the result array back, holding the encoding. -/
theorem dn0_eq (d : Dev nD) :
    (bigSep Finset.univ fun c : Fin ((K (F := F)).nCore 0) => (P A).dn 0 d c)
      = (oLoc d ↦{fullShare} (outVal (A.X d) (A.SC d) (A.NO d) : Buf (Elt F) (oLoc d)) : sProp 𝕄) := by
  show (bigSep (Finset.univ : Finset (Fin 2)) fun c => bigSep Finset.univ fun i : Fin 16 => handedBack A d c i) = _
  rw [join_rows]; rfl

/-! ## The launch's ghost state -/

/-- The handshakes' rounds, and no transfer in flight. -/
def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A).x q thr) = bigSep Finset.univ fun _ => iprop(emp) from
    bigSep_congr fun _ _ => bigSep_univ_of_subsingleton (0 : Fin 1), bigSep_emp']
  iempintro

/-! ## The main program -/

variable (m : (ℓ : Loc nD τ sig) → Buf (Elt F) ℓ) (ρ : Dev nD → PrngReg)

abbrev aLoc (d : Dev nD) : Loc nD τ sig := (SparseCore.T d).loc main_arg0
abbrev eLoc (d : Dev nD) : Loc nD τ sig := (SparseCore.T d).loc main_arg1
abbrev rLoc (d : Dev nD) : Loc nD τ sig := (SparseCore.T d).loc main_v21

/-- A device's arrays at the launch, -/
def V0 (d : Dev nD) : Valuation τ sig (Elt F) := fun b => m (d, b)

/-- the call's operands, -/
def operands : Operands F where
  X d := slabsOf (m (aLoc d))
  SC d := lanesOf (scaleOf (m (eLoc d)))
  NO d := lanesOf (noffOf (m (eLoc d)))
  old d := after preOps (V0 m d) rO

/-- and what the call leaves in its result. -/
abbrev called (d : Dev nD) : FVec F S131072x128 .f32 := outVal ((operands m).X d) ((operands m).SC d) ((operands m).NO d)

/-- The arrays after the call, as far as they are still read. -/
def V1 (d : Dev nD) : Valuation τ sig (Elt F) := Function.update (after preOps (V0 m d)) rO (called m d)

/-- The arrays the proof takes out before the call. -/
abbrev Scall : Finset (DevRef τ sig) := {rArg0, rArg1, rX, rS, rN, rO, rO1, rO2, rO3}

theorem held_call (d : Dev nD) :
    (held (T d) Scall (after preOps (V0 m d)) : sProp 𝕄)
      = iprop((aLoc d ↦{fullShare} m (aLoc d)) ∗ (eLoc d ↦{fullShare} m (eLoc d))
        ∗ (xLoc d ↦{fullShare} ((operands m).X d : Buf (Elt F) (xLoc d))) ∗ (sLoc d ↦{fullShare} ((operands m).SC d : Buf (Elt F) (sLoc d)))
        ∗ (nLoc d ↦{fullShare} ((operands m).NO d : Buf (Elt F) (nLoc d))) ∗ (oLoc d ↦{fullShare} ((operands m).old d : Buf (Elt F) (oLoc d)))
        ∗ (((d, rO1) : Loc nD τ sig) ↦{fullShare} V1 m d rO1) ∗ (((d, rO2) : Loc nD τ sig) ↦{fullShare} V1 m d rO2)
        ∗ ((d, rO3) : Loc nD τ sig) ↦{fullShare} V1 m d rO3) := by
  unfold held Scall V1
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton,
    pre_arg0, pre_arg1, pre_X, pre_S, pre_N, Function.update_of_ne (show rO1 ≠ rO by decide),
    Function.update_of_ne (show rO2 ≠ rO by decide), Function.update_of_ne (show rO3 ≠ rO by decide)]
  rfl

theorem held_post (d : Dev nD) :
    (held (T d) Spost (V1 m d) : sProp 𝕄)
      = iprop((oLoc d ↦{fullShare} (called m d : Buf (Elt F) (oLoc d)))
        ∗ (((d, rO1) : Loc nD τ sig) ↦{fullShare} V1 m d rO1) ∗ (((d, rO2) : Loc nD τ sig) ↦{fullShare} V1 m d rO2)
        ∗ ((d, rO3) : Loc nD τ sig) ↦{fullShare} V1 m d rO3) := by
  unfold held Spost
  rw [SparseCore.bigSep_insert' (by decide), SparseCore.bigSep_insert' (by decide), SparseCore.bigSep_insert' (by decide), bigSep_singleton]
  rw [show V1 m d rO = called m d from Function.update_self _ _ _]

theorem held_end (d : Dev nD) :
    (held (T d) Spost (after postOps (V1 m d)) : sProp 𝕄)
      ⊢ rLoc d ↦{fullShare} (kernelOut (m (aLoc d)) (m (eLoc d)) : Buf (Elt F) (rLoc d)) := by
  rw [StableHlo.held_sub_split (T d) (show ({rO3} : Finset (DevRef τ sig)) ⊆ Spost by decide)]
  unfold held
  rw [bigSep_singleton, post_O3, show V1 m d rO = called m d from Function.update_self _ _ _]
  exact sep_elim_left

/-- What the main program leaves: the arguments as they were, and the result. -/
abbrev FIN (d : Dev nD) : sProp 𝕄 :=
  iprop((aLoc d ↦{fullShare} m (aLoc d)) ∗ (eLoc d ↦{fullShare} m (eLoc d))
    ∗ rLoc d ↦{fullShare} (kernelOut (m (aLoc d)) (m (eLoc d)) : Buf (Elt F) (rLoc d)))

set_option backward.isDefEq.respectTransparency.types false in
/-- The main program on a device: the operations before the call, the call, the operations after it. -/
theorem hmain (κ : GSem nD τ sig → ℕ) (d : Dev nD) :
    iprop((K (F := F)).ctx EH (P (operands m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (Pipeline.ucRefs τ sig) (V0 m d) from
    Pipeline.unscopedBufs_held d (V0 m d), main_eq]
  iintro ⟨#Hctx, Hst, ⟨Hb, Hheld, Hts, -⟩, -⟩
  iapply (wp_seq 𝒱 none Set.univ d (Pipeline.ucRefs τ sig) _ preOps pre_sub pre_fresh (V0 m d)) $$ [Hb Hheld]
  · isplitl [Hb] <;> iassumption
  iintro ⟨Hb, Hheld⟩
  ihave Hh := (Entails.of_eq (StableHlo.held_sub_split (T d) (show Scall ⊆ Pipeline.ucRefs τ sig by decide) (after preOps (V0 m d)))) $$ Hheld
  icases Hh with ⟨Hh, -⟩
  ihave Hh := (Entails.of_eq (held_call m d)) $$ Hh
  icases Hh with ⟨Ha, He, Hx, Hs, Hn, Ho, H1, H2, H3⟩
  rw [wp_bind]
  iapply ((K (F := F)).wp_run (D (F := F)) 𝒱 (EH := EH) (P := P (operands m)) κ d 0) $$ [Hst Ha He Hx Hs Hn Ho H1 H2 H3 Hb Hts]
  isplitr; · iexact Hctx
  isplitl [Hst]; · iexact Hst
  isplitl [Hx Hs Hn Ho]
  · rw [st0_eq]
    isplitl [Hx]; · iexact Hx
    isplitl [Hs]; · iexact Hs
    isplitl [Hn]; · iexact Hn
    iexact Ho
  iintro ⟨Hst, Hdn⟩
  ihave Ho := (Entails.of_eq (dn0_eq (operands m) d)) $$ Hdn
  iapply (wp_seq 𝒱 none Set.univ d Spost _ postOps post_sub post_fresh (V1 m d)) $$ [Hb Ho H1 H2 H3]
  · isplitl [Hb]; · iexact Hb
    iapply (Entails.of_eq (held_post m d).symm)
    isplitl [Ho]; · iexact Ho
    isplitl [H1]; · iexact H1
    isplitl [H2]; · iexact H2
    iexact H3
  iintro ⟨Hb, Hheld⟩
  ihave Hr := (held_end m d) $$ Hheld
  rw [wp_pure]; imodintro
  isplitl [Hst]; · iexact Hst
  isplitr [Hb Hts]
  · isplitl [Ha]; · iexact Ha
    isplitl [He]; · iexact He
    iexact Hr
  isplitl [Hb] <;> iassumption

/-- What a final state has on one device. -/
def fq (d : Dev nD) (s' : Phys nD τ sig (Elt F)) : Prop :=
  s'.mem.mem (rLoc d) = (kernelOut (m (aLoc d)) (m (eLoc d)) : Buf (Elt F) (rLoc d))
    ∧ s'.mem.mem (aLoc d) = m (aLoc d) ∧ s'.mem.mem (eLoc d) = m (eLoc d)

set_option maxRecDepth 16384 in
theorem hfin (d : Dev nD) (s' : Phys nD τ sig (Elt F)) : iprop(FIN m d ∗ SI s') ⊢ (⌜fq m d s'⌝ : sProp 𝕄) := by
  iintro ⟨⟨Ha, He, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h2, HSI, -⟩
  ihave H := (SI_pointsTo_agree (st := s') (ℓ := rLoc d) (I := Finset.univ) (q := fullShare)
    (f := (kernelOut (m (aLoc d)) (m (eLoc d)) : Buf (Elt F) (rLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- What every final state has: on each device the result and the arguments, and every counter at zero. -/
def QC : PUnit × MemSt nD τ sig (Elt F) → Prop := fun r =>
  (∀ c : Dev nD, r.2.mem (rLoc c) = (kernelOut (m (aLoc c)) (m (eLoc c)) : Buf (Elt F) (rLoc c))
    ∧ r.2.mem (aLoc c) = m (aLoc c) ∧ r.2.mem (eLoc c) = m (eLoc c)) ∧ r.2.sem = fun _ => 0

/-- Every weakly fair execution terminates there. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (operands m)) (A := ∅) facts v₀
    (fun q hq => match q with | 0 => nomatch hq)
    (fun q _ => match q with | 0 => tileObl (operands m) facts)
    (fun q _ => match q with | 0 => SparseCore.Cfg.VecSplit.of_plain (vecSplit (operands m)))
    m ρ main (fun _ => iprop(emp)) (FIN m) (u₀ (F := F)) (sep_elim_left.trans (hu₀ (operands m))) (hmain m ρ) (fq m) (hfin m) (QC m)
    (fun _ h hz => ⟨h, hz⟩)

end Cert.Proof.Encode
-- ==== Proof.Frames.lean ====
/-
  The frames: both readings of the program, and the reference, end with their arguments unchanged and every semaphore counter
  at zero.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_evenly_spaced

@[expose] public section

noncomputable section

namespace Cert.Proof.Encode

open Idealize.ShloMosaic Idealize.SL.Sem

/-- The program's run read at its arguments. -/
theorem frame_KernelIdeal : Cert.quiescent_KernelIdeal := fun m ρ _ =>
  (θ_run Cert.KernelIdeal.defs _ _).mono (fun _ h => ⟨fun c => (h.1 c).2, h.2⟩) (run_main (F := Ideal) m ρ)

theorem frame_KernelIdeal_pre : Cert.quiescent_KernelIdeal_pre_evenly_spaced := fun m ρ _ => frame_KernelIdeal m ρ trivial

/-- The original program is the same text read over words. -/
theorem frame_Kernel : Cert.quiescent_Kernel := fun m ρ _ =>
  (θ_run Cert.KernelIdeal.defs _ _).mono (fun _ h => ⟨fun c => (h.1 c).2, h.2⟩) (run_main (F := Bits) m ρ)

/-- The reference declares no semaphore. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ReferenceIdeal_pre : Cert.quiescent_ReferenceIdeal_pre_evenly_spaced := fun m ρ _ => frame_ReferenceIdeal m ρ trivial

end Cert.Proof.Encode
-- ==== Proof.Layout.lean ====
/-
  The program's result read at an index: the laid out inputs, bins and results, each reshape and transpose resolved to the entry
  it reads.
-/
module

public import proofs.«01_k».proof.Proof.Host
public import Idealize.ShloMosaic.Lib.ValueIdx
public import Idealize.ShloMosaic.Lib.Pipeline.Value

@[expose] public section

noncomputable section

namespace Cert.Proof.Encode

open Cert.KernelIdeal Cert.KernelIdeal.Gen
open Idealize.ShloMosaic

variable {F : FTy → Type} [FloatOps F]

/-- Row `i`, lane `l` of a laid out table is bin `l / 16` of half feature `i`. -/
theorem lanesOf_apply (t : FVec F S16x16 .f32) (i : Fin 32) (l : Fin 128) :
    lanesOf t (ix2 i l) = t (ix2 (n0 := 16) (n1 := 16) ⟨i.val / 2, by omega⟩ ⟨8 * (i.val % 2) + l.val / 16, by omega⟩) := by
  unfold lanesOf
  rw [shapeCast_apply _ _ _ (ix3 (n0 := 16) (n1 := 2) (n2 := 128) ⟨i.val / 2, by omega⟩ ⟨i.val % 2, by omega⟩ l)
      (by rw [Shape.rowMajor_val_three, Shape.rowMajor_val_two]; show (i.val / 2 * 2 + i.val % 2) * 128 + l.val = i.val * 128 + l.val; omega),
    shapeCast_apply _ _ _ (ix4 (n0 := 16) (n1 := 2) (n2 := 8) (n3 := 16) ⟨i.val / 2, by omega⟩ ⟨i.val % 2, by omega⟩ ⟨l.val / 16, by omega⟩ ⟨l.val % 16, by omega⟩)
      (by
        rw [Shape.rowMajor_val_four, Shape.rowMajor_val_three]
        show ((i.val / 2 * 2 + i.val % 2) * 8 + l.val / 16) * 16 + l.val % 16 = (i.val / 2 * 2 + i.val % 2) * 128 + l.val
        omega),
    broadcastInDim_apply _ _ _ _ (ix3 (n0 := 16) (n1 := 2) (n2 := 8) ⟨i.val / 2, by omega⟩ ⟨i.val % 2, by omega⟩ ⟨l.val / 16, by omega⟩)
      (fun a => by
        match a with
        | ⟨0, _⟩ => rfl
        | ⟨1, _⟩ => rfl
        | ⟨2, _⟩ => rfl),
    shapeCast_apply _ _ _ (ix2 (n0 := 16) (n1 := 16) ⟨i.val / 2, by omega⟩ ⟨8 * (i.val % 2) + l.val / 16, by omega⟩)
      (by
        rw [Shape.rowMajor_val_two, Shape.rowMajor_val_three]
        show i.val / 2 * 16 + (8 * (i.val % 2) + l.val / 16) = (i.val / 2 * 2 + i.val % 2) * 8 + l.val / 16
        omega)]

/-- Entry `(r, a, l)` of the laid out inputs is input `128 (r mod 512) + l` of feature `8 (r / 512) + a`. -/
theorem slabsOf_apply (x : FVec F S65536x16 .f32) (r : Fin 1024) (a : Fin 8) (l : Fin 128) :
    slabsOf x (ix3 r a l)
      = x (ix2 (n0 := 65536) (n1 := 16) ⟨r.val % 512 * 128 + l.val, by omega⟩ ⟨r.val / 512 * 8 + a.val, by omega⟩) := by
  unfold slabsOf
  rw [shapeCast_apply _ _ _ (ix4 (n0 := 2) (n1 := 512) (n2 := 8) (n3 := 128) ⟨r.val / 512, by omega⟩ ⟨r.val % 512, by omega⟩ a l)
      (by
        rw [Shape.rowMajor_val_four, Shape.rowMajor_val_three]
        show ((r.val / 512 * 512 + r.val % 512) * 8 + a.val) * 128 + l.val = (r.val * 8 + a.val) * 128 + l.val
        omega),
    transpose_apply _ _ _ _ (ix4 (n0 := 512) (n1 := 128) (n2 := 2) (n3 := 8) ⟨r.val % 512, by omega⟩ l ⟨r.val / 512, by omega⟩ a)
      (fun b => by
        match b with
        | ⟨0, _⟩ => rfl
        | ⟨1, _⟩ => rfl
        | ⟨2, _⟩ => rfl
        | ⟨3, _⟩ => rfl),
    shapeCast_apply _ _ _ (ix2 (n0 := 65536) (n1 := 16) ⟨r.val % 512 * 128 + l.val, by omega⟩ ⟨r.val / 512 * 8 + a.val, by omega⟩)
      (by
        rw [Shape.rowMajor_val_two, Shape.rowMajor_val_four]
        show (r.val % 512 * 128 + l.val) * 16 + (r.val / 512 * 8 + a.val) = ((r.val % 512 * 128 + l.val) * 2 + r.val / 512) * 8 + a.val
        omega)]

/-- The row of the call's result that has bin `b` of feature `f` for input `n`. -/
def rowOf (n : Fin 65536) (f b : Fin 16) : Fin 131072 :=
  ⟨((f.val * 2 + b.val / 8) * 512 + n.val / 128) * 8 + b.val % 8, by omega⟩

/-- Entry `(n, f, b)` of the program's result. -/
theorem unslab_apply (y : FVec F S131072x128 .f32) (n : Fin 65536) (f b : Fin 16) :
    unslab y (ix3 n f b) = y (ix2 (n0 := 131072) (n1 := 128) (rowOf n f b) ⟨n.val % 128, by omega⟩) := by
  unfold unslab
  rw [shapeCast_apply _ _ _ (ix5 (n0 := 512) (n1 := 128) (n2 := 16) (n3 := 2) (n4 := 8) ⟨n.val / 128, by omega⟩ ⟨n.val % 128, by omega⟩ f
        ⟨b.val / 8, by omega⟩ ⟨b.val % 8, by omega⟩)
      (by
        rw [Shape.rowMajor_val_five, Shape.rowMajor_val_three]
        show (((n.val / 128 * 128 + n.val % 128) * 16 + f.val) * 2 + b.val / 8) * 8 + b.val % 8 = (n.val * 16 + f.val) * 16 + b.val
        omega),
    transpose_apply _ _ _ _ (ix5 (n0 := 16) (n1 := 2) (n2 := 512) (n3 := 8) (n4 := 128) f ⟨b.val / 8, by omega⟩ ⟨n.val / 128, by omega⟩
        ⟨b.val % 8, by omega⟩ ⟨n.val % 128, by omega⟩)
      (fun b => by
        match b with
        | ⟨0, _⟩ => rfl
        | ⟨1, _⟩ => rfl
        | ⟨2, _⟩ => rfl
        | ⟨3, _⟩ => rfl
        | ⟨4, _⟩ => rfl),
    shapeCast_apply _ _ _ (ix2 (n0 := 131072) (n1 := 128) (rowOf n f b) ⟨n.val % 128, by omega⟩)
      (by
        rw [Shape.rowMajor_val_two, Shape.rowMajor_val_five]
        show (((f.val * 2 + b.val / 8) * 512 + n.val / 128) * 8 + b.val % 8) * 128 + n.val % 128
          = (((f.val * 2 + b.val / 8) * 512 + n.val / 128) * 8 + b.val % 8) * 128 + n.val % 128
        rfl)]

/-- Entry `(n, f, b)` of the program's result is the encoded value of the input, with the scale of the first bin of `b`'s half
    and the offset of `b`. -/
theorem kernelOut_apply (x : FVec F S65536x16 .f32) (e : FVec F S16x17 .f32) (n : Fin 65536) (f b : Fin 16) :
    kernelOut x e (ix3 n f b)
      = enc (x (ix2 n f)) (scaleOf e (ix2 (n0 := 16) (n1 := 16) f ⟨8 * (b.val / 8), by omega⟩)) (noffOf e (ix2 f b)) := by
  have hr : (rowOf n f b).val = ((f.val * 2 + b.val / 8) * 512 + n.val / 128) * 8 + b.val % 8 := rfl
  have r0 : (rowOf n f b).val / 65536 = f.val / 8 := by omega
  have r1 : (rowOf n f b).val % 4096 / 8 = n.val / 128 := by omega
  have r2 : (rowOf n f b).val / 8192 = f.val := by omega
  have r3 : (rowOf n f b).val / 4096 = f.val * 2 + b.val / 8 := by omega
  have r4 : (rowOf n f b).val % 8 = b.val % 8 := by omega
  unfold kernelOut
  rw [unslab_apply]
  refine congr (congr (congrArg enc ?_) ?_) ?_
  · refine (slabsOf_apply x _ _ _).trans (congrArg x (congrArg₂ ix2 (Fin.ext ?_) (Fin.ext ?_)))
    · show ((rowOf n f b).val / 65536 * 512 + (rowOf n f b).val % 4096 / 8) % 512 * 128 + n.val % 128 = n.val
      rw [r0, r1]; omega
    · show ((rowOf n f b).val / 65536 * 512 + (rowOf n f b).val % 4096 / 8) / 512 * 8 + (rowOf n f b).val / 8192 % 8 = f.val
      rw [r0, r1, r2]; omega
  · refine (lanesOf_apply (scaleOf e) _ _).trans (congrArg (scaleOf e) (congrArg₂ ix2 (Fin.ext ?_) (Fin.ext ?_)))
    · show (rowOf n f b).val / 4096 / 2 = f.val
      rw [r3]; omega
    · show 8 * ((rowOf n f b).val / 4096 % 2) + n.val % 128 % 16 / 16 = 8 * (b.val / 8)
      rw [r3]; omega
  · refine (lanesOf_apply (noffOf e) _ _).trans (congrArg (noffOf e) (congrArg₂ ix2 (Fin.ext ?_) (Fin.ext ?_)))
    · show (rowOf n f b).val / 4096 / 2 = f.val
      rw [r3]; omega
    · show 8 * ((rowOf n f b).val / 4096 % 2) + (16 * ((rowOf n f b).val % 8) + n.val % 128 % 16) / 16 = b.val
      rw [r3, r4]; omega

end Cert.Proof.Encode
-- ==== Proof.Interp.lean ====
/-
  The encoding of one input against one feature's edges, in the extended reals: where the edges rise, each half of the bins has
  one width and the input lies among the edges, the clamped line of every bin is what the bin index and the ratio say.
-/
module

public import Idealize.ShloMosaic.PureOps.Ideal
public import Idealize.ShloMosaic.PureOps.Ideal.Laws
public import Mathlib.Data.Fintype.Fin

@[expose] public section

noncomputable section

namespace Cert.Proof.Encode

open Idealize.ShloMosaic

/-- What is asked of one feature's edges `E 0, …, E 16` and of one input `x`. -/
structure Spaced (E : ℕ → EReal) (x : EReal) : Prop where
  rise : ∀ b < 16, E b < E (b + 1)
  width : ∀ b < 16, E (b + 1) - E b = E (8 * (b / 8) + 1) - E (8 * (b / 8))
  low : E 0 ≤ x
  high : x ≤ E 16

/-- The number of inner edges at or below the input: the index of its bin. -/
def binOf (E : ℕ → EReal) (x : EReal) : ℕ := (Finset.univ.filter fun k : Fin 15 => E (k.val + 1) ≤ x).card

theorem binOf_le (E : ℕ → EReal) (x : EReal) : binOf E x ≤ 15 :=
  (Finset.card_le_univ _).trans_eq (Fintype.card_fin 15)

/-- Under those conditions the edges are real numbers, -/
theorem Spaced.edge_real {E : ℕ → EReal} {x : EReal} (h : Spaced E x) {k : ℕ} (hk : k ≤ 16) : E k ≠ ⊤ ∧ E k ≠ ⊥ := by
  have inner : ∀ j, 0 < j → j < 16 → E j ≠ ⊤ ∧ E j ≠ ⊥ := fun j h0 h1 => by
    obtain ⟨i, rfl⟩ : ∃ i, j = i + 1 := ⟨j - 1, by omega⟩
    exact ⟨(h.rise (i + 1) h1).ne_top, (h.rise i (by omega)).ne_bot⟩
  -- the width of an inner bin is a real number, so the widths of the two end bins are
  have wide : ∀ j, 0 < j → j < 15 → E (j + 1) - E j ≠ ⊤ := fun j h0 h1 => by
    obtain ⟨a, a'⟩ := inner j h0 (by omega)
    obtain ⟨b, b'⟩ := inner (j + 1) (by omega) (by omega)
    lift E j to ℝ using ⟨a, a'⟩ with u
    lift E (j + 1) to ℝ using ⟨b, b'⟩ with v
    rw [← EReal.coe_sub]; exact EReal.coe_ne_top _
  rcases Nat.eq_zero_or_pos k with rfl | h0
  · refine ⟨(h.rise 0 (by omega)).ne_top, fun e => wide 1 (by omega) (by omega) ?_⟩
    obtain ⟨a, a'⟩ := inner 1 (by omega) (by omega)
    rw [h.width 1 (by omega)]
    show E 1 - E 0 = ⊤
    rw [e]
    lift E 1 to ℝ using ⟨a, a'⟩ with u
    rfl
  rcases Nat.lt_or_ge k 16 with h1 | h1
  · exact inner k h0 h1
  · obtain rfl : k = 16 := by omega
    refine ⟨fun e => wide 14 (by omega) (by omega) ?_, (h.rise 15 (by omega)).ne_bot⟩
    obtain ⟨a, a'⟩ := inner 15 (by omega) (by omega)
    rw [h.width 14 (by omega), ← h.width 15 (by omega)]
    show E 16 - E 15 = ⊤
    rw [e]
    lift E 15 to ℝ using ⟨a, a'⟩ with u
    rfl

/-- and the input, between them, is one. -/
theorem Spaced.input_real {E : ℕ → EReal} {x : EReal} (h : Spaced E x) : x ≠ ⊤ ∧ x ≠ ⊥ :=
  ⟨ne_top_of_le_ne_top (h.edge_real (le_refl 16)).1 h.high, fun e => (h.edge_real (Nat.zero_le 16)).2 (le_bot_iff.1 (e ▸ h.low))⟩

theorem Spaced.edge_mono {E : ℕ → EReal} {x : EReal} (h : Spaced E x) {j k : ℕ} (hjk : j ≤ k) (hk : k ≤ 16) : E j ≤ E k := by
  induction k, hjk using Nat.le_induction with
  | base => exact le_refl _
  | succ k _ ih => exact (ih (by omega)).trans (h.rise k (by omega)).le

/-- Bin `b` is below the input's bin when the input has reached its right edge. -/
theorem Spaced.lt_binOf {E : ℕ → EReal} {x : EReal} (h : Spaced E x) {b : ℕ} (hb : b < 15) : b < binOf E x ↔ E (b + 1) ≤ x := by
  unfold binOf
  constructor
  · intro hlt
    by_contra hx
    refine absurd hlt (Nat.not_lt.2 ?_)
    calc _ ≤ (Finset.univ.filter fun k : Fin 15 => k.val < b).card :=
          Finset.card_le_card fun k hk => by
            simp only [Finset.mem_filter, Finset.mem_univ, true_and] at hk ⊢
            by_contra hkb
            exact hx ((h.edge_mono (by omega) (by omega)).trans hk)
      _ ≤ b := by rw [Fin.card_filter_val_lt]; exact Nat.min_le_right _ _
  · intro hx
    calc b < (Finset.univ.filter fun k : Fin 15 => k.val < b + 1).card := by rw [Fin.card_filter_val_lt]; omega
      _ ≤ _ := Finset.card_le_card fun k hk => by
          simp only [Finset.mem_filter, Finset.mem_univ, true_and] at hk ⊢
          exact (h.edge_mono (by omega) (by omega)).trans hx

/-- The clamped line of a bin `[l, l + w]`, in the real numbers. -/
theorem line_eq {l w y : ℝ} (hw : w ≠ 0) : y * (1 / w) + -l * (1 / w) = (y - l) / w := by
  field_simp
  ring

/-- THE ENCODING: the clamped line of bin `b`, its slope taken from the first bin of the half, is 1 below the input's bin, 0 above
    it, and in it the input's place between the bin's edges. -/
theorem Spaced.clamp_eq {E : ℕ → EReal} {x : EReal} (h : Spaced E x) {b : ℕ} (hb : b < 16) :
    min (max (x * Ideal.div 1 (E (8 * (b / 8) + 1) - E (8 * (b / 8))) + -E b * Ideal.div 1 (E (8 * (b / 8) + 1) - E (8 * (b / 8)))) 0) 1
      = if b = binOf E x then Ideal.div (x - E (binOf E x)) (E (binOf E x + 1) - E (binOf E x)) else if b < binOf E x then 1 else 0 := by
  have hi := binOf_le E x
  have up : b < binOf E x → E (b + 1) ≤ x := fun hlt => (h.lt_binOf (by omega)).1 hlt
  have dn : binOf E x < b → x < E b := fun hlt => by
    obtain ⟨a, rfl⟩ : ∃ a, b = a + 1 := ⟨b - 1, by omega⟩
    exact not_le.1 fun hx => absurd ((h.lt_binOf (by omega)).2 hx) (by omega)
  have inl : b = binOf E x → E b ≤ x := fun he => by
    rcases Nat.eq_zero_or_pos b with h0 | h0
    · rw [h0]; exact h.low
    · obtain ⟨a, rfl⟩ : ∃ a, b = a + 1 := ⟨b - 1, by omega⟩
      exact (h.lt_binOf (by omega)).1 (by omega)
  have inr : b = binOf E x → x ≤ E (b + 1) := fun he => by
    rcases Nat.lt_or_ge b 15 with h1 | h1
    · exact (not_le.1 fun hx => absurd ((h.lt_binOf h1).2 hx) (by omega)).le
    · rw [show b + 1 = 16 by omega]; exact h.high
  rw [← h.width b hb]
  have rise := h.rise b hb
  by_cases he : b = binOf E x
  · rw [if_pos he, ← he]
    have hl := inl he
    have hr := inr he
    lift x to ℝ using h.input_real with y
    lift E b to ℝ using h.edge_real (by omega) with l
    lift E (b + 1) to ℝ using h.edge_real (by omega) with r
    rw [EReal.coe_le_coe_iff] at hl hr
    rw [EReal.coe_lt_coe_iff] at rise
    have hw : (0 : ℝ) < r - l := by linarith
    rw [← EReal.coe_sub, ← EReal.coe_sub, Ideal.div_coe hw.ne', Ideal.div_coe hw.ne', one_mul, ← EReal.coe_neg, ← EReal.coe_mul,
      ← EReal.coe_mul, ← EReal.coe_mul, ← EReal.coe_add, line_eq hw.ne', mul_one_div, max_eq_left, min_eq_left]
    · rw [← EReal.coe_one, EReal.coe_le_coe_iff, div_le_one hw]; linarith
    · rw [← EReal.coe_zero, EReal.coe_le_coe_iff]; exact div_nonneg (by linarith) hw.le
  · rw [if_neg he]
    by_cases hlt : b < binOf E x
    · rw [if_pos hlt]
      have hr := up hlt
      lift x to ℝ using h.input_real with y
      lift E b to ℝ using h.edge_real (by omega) with l
      lift E (b + 1) to ℝ using h.edge_real (by omega) with r
      rw [EReal.coe_le_coe_iff] at hr
      rw [EReal.coe_lt_coe_iff] at rise
      have hw : (0 : ℝ) < r - l := by linarith
      rw [← EReal.coe_sub, Ideal.div_coe hw.ne', one_mul, ← EReal.coe_neg, ← EReal.coe_mul, ← EReal.coe_mul, ← EReal.coe_add,
        line_eq hw.ne', min_eq_right]
      refine le_max_of_le_left ?_
      rw [← EReal.coe_one, EReal.coe_le_coe_iff, one_le_div hw]; linarith
    · rw [if_neg hlt]
      have hl := dn (by omega)
      lift x to ℝ using h.input_real with y
      lift E b to ℝ using h.edge_real (by omega) with l
      lift E (b + 1) to ℝ using h.edge_real (by omega) with r
      rw [EReal.coe_lt_coe_iff] at rise hl
      have hw : (0 : ℝ) < r - l := by linarith
      rw [← EReal.coe_sub, Ideal.div_coe hw.ne', one_mul, ← EReal.coe_neg, ← EReal.coe_mul, ← EReal.coe_mul, ← EReal.coe_add,
        line_eq hw.ne', max_eq_right, min_eq_left]
      · exact zero_le_one
      · rw [← EReal.coe_zero, EReal.coe_le_coe_iff]
        exact div_nonpos_of_nonpos_of_nonneg (by linarith) hw.le

end Cert.Proof.Encode
-- ==== Proof.Evenly.lean ====
/-
  The condition on the arguments read at an input and a feature: what `Spaced` asks of them.
-/
module

public import proofs.«01_k».proof.Proof.Interp
public import proofs.«01_k».proof.Proof.Gen.Pre_evenly_spaced
public import Idealize.ShloMosaic.Lib.ReduceAll
public import Idealize.ShloMosaic.Lib.Pointwise.Index
public import Idealize.ShloMosaic.Lib.Pipeline.Value

@[expose] public section

noncomputable section

namespace Cert.Proof.Encode

open Idealize.ShloMosaic

/-- Edge `k` of feature `f`, for `k` up to 16. -/
def edge (e : FVec Ideal ⟨2, ![16, 17]⟩ .f32) (f : Fin 16) (k : ℕ) : EReal := e (ix2 f ⟨k % 17, Nat.mod_lt _ (by decide)⟩)

/-- An edge is an entry of the table. -/
theorem edge_eq (e : FVec Ideal ⟨2, ![16, 17]⟩ .f32) (f : Fin 16) {k : ℕ} (hk : k < 17) : e (ix2 f ⟨k, hk⟩) = edge e f k := by
  unfold edge
  congr 2
  exact Fin.ext (Nat.mod_eq_of_lt hk).symm

/-- A slice of whole rows of the edges, from column `o` on. -/
theorem slice_edge {w o : ℕ} (e : FVec Ideal ⟨2, ![16, 17]⟩ .f32) (h : (⟨2, ![16, 17]⟩ : Shape).Slices ![0, o] ⟨2, ![16, w]⟩)
    (f : Fin 16) (b : Fin w) (hb : b.val + o < 17) : extractStridedSlice ⟨2, ![16, w]⟩ ![0, o] e h (ix2 f b) = edge e f (b.val + o) := by
  rw [← edge_eq e f hb]
  unfold extractStridedSlice
  refine congrArg e (funext fun a => Fin.ext ?_)
  match a with
  | ⟨0, _⟩ => exact Nat.zero_add _
  | ⟨1, _⟩ => exact Nat.add_comm _ _

/-- A one-bit word made of a decision is 1 when the proposition holds. -/
theorem of_decide {p : Prop} [Decidable p] (h : BitVec.ofBool (decide p) = 1#1) : p := by
  by_contra hp
  rw [decide_eq_false hp] at h
  exact absurd h (by decide)

/-- Column `o` of the edges, spread over the inputs. -/
theorem column_edge {o : ℕ} (ho : o < 17) (e : FVec Ideal ⟨2, ![16, 17]⟩ .f32) (h : (⟨2, ![16, 17]⟩ : Shape).Slices ![0, o] ⟨2, ![16, 1]⟩)
    (hc : (⟨2, ![16, 1]⟩ : Shape).ShapeCasts ⟨1, ![16]⟩)
    (h1 : (⟨1, ![16]⟩ : Shape).BroadcastsInDim ⟨2, ![1, 16]⟩ (![1] : Fin 1 → Fin 2))
    (h2 : (⟨2, ![1, 16]⟩ : Shape).BroadcastsInDim ⟨2, ![65536, 16]⟩ (![0, 1] : Fin 2 → Fin 2)) (n : Fin 65536) (f : Fin 16) :
    broadcastInDim ⟨2, ![65536, 16]⟩ ![0, 1] h2 (broadcastInDim ⟨2, ![1, 16]⟩ ![1] h1
      (shapeCast ⟨1, ![16]⟩ (extractStridedSlice ⟨2, ![16, 1]⟩ ![0, o] e h) hc)) (ix2 n f) = edge e f o := by
  rw [broadcastInDim_apply _ _ _ _ (ix2 (n0 := 1) (n1 := 16) 0 f) (fun a => by
      match a with
      | ⟨0, _⟩ => rfl
      | ⟨1, _⟩ => rfl),
    broadcastInDim_apply _ _ _ _ (ix1 (n0 := 16) f) (fun a => by
      match a with
      | ⟨0, _⟩ => rfl),
    shapeCast_apply _ _ _ (ix2 (n0 := 16) (n1 := 1) f 0)
      (by rw [Shape.rowMajor_val_two, Shape.rowMajor_val_one]; show f.val * 1 + 0 = f.val; omega),
    slice_edge e h f 0 (by simpa using ho)]
  simp

/-- The width of bin `a` of half `k`, from the widths laid out by halves. -/
theorem width_edge (e : FVec Ideal ⟨2, ![16, 17]⟩ .f32) (h0 : (⟨2, ![16, 17]⟩ : Shape).Slices ![0, 0] ⟨2, ![16, 16]⟩)
    (h1 : (⟨2, ![16, 17]⟩ : Shape).Slices ![0, 1] ⟨2, ![16, 16]⟩) (hc : (⟨2, ![16, 16]⟩ : Shape).ShapeCasts ⟨3, ![16, 2, 8]⟩)
    (f : Fin 16) (k : Fin 2) (a : Fin 8) :
    shapeCast ⟨3, ![16, 2, 8]⟩ (subf (extractStridedSlice ⟨2, ![16, 16]⟩ ![0, 1] e h1) (extractStridedSlice ⟨2, ![16, 16]⟩ ![0, 0] e h0)) hc (ix3 f k a)
      = edge e f (8 * k.val + a.val + 1) - edge e f (8 * k.val + a.val) := by
  rw [shapeCast_apply _ _ _ (ix2 (n0 := 16) (n1 := 16) f ⟨8 * k.val + a.val, by omega⟩) (by
    rw [Shape.rowMajor_val_two, Shape.rowMajor_val_three]
    show f.val * 16 + (8 * k.val + a.val) = (f.val * 2 + k.val) * 8 + a.val
    omega)]
  exact congrArg₂ (fun u v : EReal => u - v) (slice_edge e h1 f _ (by show 8 * k.val + a.val + 1 < 17; omega))
    (slice_edge e h0 f _ (by show 8 * k.val + a.val + 0 < 17; omega))

instance : Subsingleton (Shape.Idx ⟨0, ![]⟩) := ⟨fun _ _ => funext fun a => a.elim0⟩

/-- THE CONDITION, at input `n` and feature `f`. -/
theorem spaced_of_pre {x : FVec Ideal ⟨2, ![65536, 16]⟩ .f32} {e : FVec Ideal ⟨2, ![16, 17]⟩ .f32}
    (h : Cert.Pre_evenly_spaced.fn (F := Ideal) x e = fun _ => 1#1) (n : Fin 65536) (f : Fin 16) :
    Spaced (edge e f) (x (ix2 n f)) := by
  have h0 := congrFun h (fun a => a.elim0)
  unfold Cert.Pre_evenly_spaced.fn Cert.Pre_evenly_spaced.fn_part1 at h0
  obtain ⟨h0, high⟩ := IntOp.andi_eq_one.1 h0
  obtain ⟨h0, low⟩ := IntOp.andi_eq_one.1 h0
  obtain ⟨rise, width⟩ := IntOp.andi_eq_one.1 h0
  refine ⟨fun b hb => ?_, fun b hb => ?_, ?_, ?_⟩
  · have := of_decide (Host.reduce_andi_all _ _ _ _ _ rise (ix2 (n0 := 16) (n1 := 16) f ⟨b, hb⟩))
    beta_reduce at this
    rwa [slice_edge e _ f ⟨b, hb⟩ (by show b + 0 < 17; omega), slice_edge e _ f ⟨b, hb⟩ (by show b + 1 < 17; omega)] at this
  · have := of_decide (Host.reduce_andi_all _ _ _ _ _ width (ix3 (n0 := 16) (n1 := 2) (n2 := 8) f ⟨b / 8, by omega⟩ ⟨b % 8, by omega⟩))
    beta_reduce at this
    rw [width_edge, broadcastInDim_apply _ _ _ _ (ix3 (n0 := 16) (n1 := 2) (n2 := 1) f ⟨b / 8, by omega⟩ 0) (fun a => by
        match a with
        | ⟨0, _⟩ => rfl
        | ⟨1, _⟩ => rfl
        | ⟨2, _⟩ => rfl)] at this
    have first := width_edge e Cert.Pre_evenly_spaced.Gen.slices_S16x17_S16x16_0_0 Cert.Pre_evenly_spaced.Gen.slices_S16x17_S16x16_0_1
      Cert.Pre_evenly_spaced.Gen.shapeCasts_S16x16_S16x2x8 f ⟨b / 8, by omega⟩ 0
    have hb' : 8 * (b / 8) + b % 8 = b := Nat.div_add_mod b 8
    simp only [hb'] at this
    refine this.trans (Eq.trans ?_ first)
    unfold extractStridedSlice
    refine congrArg (shapeCast _ _ _) (funext fun a => Fin.ext ?_)
    match a with
    | ⟨0, _⟩ => exact Nat.zero_add _
    | ⟨1, _⟩ => exact Nat.zero_add _
    | ⟨2, _⟩ => rfl
  · have := of_decide (Host.reduce_andi_all _ _ _ _ _ low (ix2 (n0 := 65536) (n1 := 16) n f))
    beta_reduce at this
    rwa [column_edge (by decide)] at this
  · have := of_decide (Host.reduce_andi_all _ _ _ _ _ high (ix2 (n0 := 65536) (n1 := 16) n f))
    beta_reduce at this
    rwa [column_edge (by decide)] at this

end Cert.Proof.Encode
-- ==== Proof.RefValue.lean ====
/-
  The reference's result read at an index: the bin of the input, the edges gathered at it, the ratio between them and the two
  selections on the bin index.
-/
module

public import proofs.«01_k».proof.Proof.Evenly
public import proofs.«01_k».proof.Proof.Gen.ReferenceIdeal.Run
public import Idealize.ShloMosaic.Lib.IndicatorCount
public import Idealize.ShloMosaic.Lib.IdealHost
public import Idealize.ShloMosaic.Lib.Pointwise.Reduce

@[expose] public section

noncomputable section

namespace Cert.Proof.Encode

open Cert.ReferenceIdeal Cert.ReferenceIdeal.Facts₀
open Idealize.ShloMosaic

/-! ## Words that hold small naturals -/

/-- A small natural, as a word, is not negative. -/
theorem slt_zero_ofNat {k : ℕ} (hk : k < 2 ^ 31) : IntOp.cmpi .slt (BitVec.ofNat 32 k) 0#32 = 0#1 := by
  have : (BitVec.ofNat 32 k).slt 0#32 = false := by
    rw [BitVec.slt_eq_decide, decide_eq_false_iff_not, BitVec.toInt_ofNat', Int.bmod_eq_of_le (by omega) (by omega)]
    simp
  simp [IntOp.cmpi, this]

/-- Comparing two small naturals, as words. -/
theorem slt_ofNat {j k : ℕ} (hj : j < 2 ^ 31) (hk : k < 2 ^ 31) :
    IntOp.cmpi .slt (BitVec.ofNat 32 j) (BitVec.ofNat 32 k) = BitVec.ofBool (decide (j < k)) := by
  have : (BitVec.ofNat 32 j).slt (BitVec.ofNat 32 k) = decide (j < k) := by
    rw [BitVec.slt_eq_decide, BitVec.toInt_ofNat', BitVec.toInt_ofNat', Int.bmod_eq_of_le (by omega) (by omega),
      Int.bmod_eq_of_le (by omega) (by omega)]
    simp
  simp [IntOp.cmpi, this]

theorem eq_ofNat {j k : ℕ} (hj : j < 2 ^ 31) (hk : k < 2 ^ 31) :
    IntOp.cmpi .eq (BitVec.ofNat 32 j) (BitVec.ofNat 32 k) = BitVec.ofBool (decide (j = k)) := by
  have : (BitVec.ofNat 32 j == BitVec.ofNat 32 k) = decide (j = k) := by
    rw [Bool.eq_iff_iff, beq_iff_eq, decide_eq_true_iff, ← BitVec.toNat_inj, BitVec.toNat_ofNat, BitVec.toNat_ofNat,
      Nat.mod_eq_of_lt (by omega), Nat.mod_eq_of_lt (by omega)]
  simp [IntOp.cmpi, this]

/-- A selection on a decided bit. -/
theorem select_decide {α : Type} (p : Prop) [Decidable p] (a b : α) :
    Scalar.select (BitVec.ofBool (decide p)) a b = if p then a else b := by
  by_cases h : p
  · rw [if_pos h, decide_eq_true h]; rfl
  · rw [if_neg h, decide_eq_false h]; rfl

/-! ## Spreading an array over one more axis -/

theorem spread1 {α : Type} (v : S65536x16.Idx → α) (n : Fin 65536) (f : Fin 16) (z : Fin 1) :
    broadcastInDim S65536x16x1 ![0, 1] bcast_S65536x16_S65536x16x1_0_1 v (ix3 n f z) = v (ix2 n f) :=
  broadcastInDim_apply _ _ _ _ _ fun a => by
    match a with
    | ⟨0, _⟩ => rfl
    | ⟨1, _⟩ => rfl

theorem spread16 {α : Type} (v : S65536x16.Idx → α) (n : Fin 65536) (f b : Fin 16) :
    broadcastInDim S65536x16x16 ![0, 1, 2] bcast_S65536x16x1_S65536x16x16_0_1_2
      (broadcastInDim S65536x16x1 ![0, 1] bcast_S65536x16_S65536x16x1_0_1 v) (ix3 n f b) = v (ix2 n f) :=
  (broadcastInDim_apply _ _ _ _ (ix3 (n0 := 65536) (n1 := 16) (n2 := 1) n f 0) fun a => by
    match a with
    | ⟨0, _⟩ => rfl
    | ⟨1, _⟩ => rfl
    | ⟨2, _⟩ => rfl).trans (spread1 v n f 0)

/-! ## The bin index -/

variable (x : FVec Ideal S65536x16 .f32) (e : FVec Ideal S16x17 .f32)

/-- Which inner edges are at or below which inputs. -/
def reached : IVec S65536x16x15 1 :=
  cmpf .ole (broadcastInDim S65536x16x15 ![0, 1, 2] bcast_S1x16x15_S65536x16x15_0_1_2
      (broadcastInDim S1x16x15 ![1, 2] bcast_S16x15_S1x16x15_1_2 (extractStridedSlice S16x15 ![0, 1] e slices_S16x17_S16x15_0_1)))
    (broadcastInDim S65536x16x15 ![0, 1, 2] bcast_S65536x16x1_S65536x16x15_0_1_2
      (broadcastInDim S65536x16x1 ![0, 1] bcast_S65536x16_S65536x16x1_0_1 x))

/-- Their number. -/
def bins : IVec S65536x16 32 :=
  Host.reduce IntOp.addi (extui 32 (reached x e) natLt_1_32) (constantI S_ 32 0#32) reducesTo_S65536x16x15_S65536x16_d2 h_S_

theorem reached_apply (n : Fin 65536) (f : Fin 16) (k : Fin 15) :
    reached x e (ix3 n f k) = BitVec.ofBool (decide (edge e f (k.val + 1) ≤ x (ix2 n f))) := by
  unfold reached
  show Ideal.cmp .ole _ _ = _
  rw [broadcastInDim_apply _ _ _ _ (ix3 (n0 := 1) (n1 := 16) (n2 := 15) 0 f k) (fun a => by
      match a with
      | ⟨0, _⟩ => rfl
      | ⟨1, _⟩ => rfl
      | ⟨2, _⟩ => rfl),
    broadcastInDim_apply _ _ _ _ (ix2 (n0 := 16) (n1 := 15) f k) (fun a => by
      match a with
      | ⟨0, _⟩ => rfl
      | ⟨1, _⟩ => rfl),
    slice_edge e slices_S16x17_S16x15_0_1 f k (by omega),
    broadcastInDim_apply _ _ _ (ix3 n f k) (ix3 (n0 := 65536) (n1 := 16) (n2 := 1) n f 0) (fun a => by
      match a with
      | ⟨0, _⟩ => rfl
      | ⟨1, _⟩ => rfl
      | ⟨2, _⟩ => rfl),
    spread1]
  rfl

theorem bins_apply (n : Fin 65536) (f : Fin 16) : bins x e (ix2 n f) = BitVec.ofNat 32 (binOf (edge e f) (x (ix2 n f))) := by
  unfold bins
  rw [Host.reduce_eq_fold, Shape.ReducesTo.fold_fiber_r3_a2]
  refine (IndicatorCount.fold_addi_setWidth_eq_card (fun k : Fin 15 => reached x e (ix3 n f k)) Finset.univ).trans ?_
  unfold binOf
  refine congrArg (fun s : Finset (Fin 15) => BitVec.ofNat 32 s.card) (Finset.filter_congr fun k _ => ?_)
  rw [reached_apply]
  exact ⟨of_decide, fun h => by rw [decide_eq_true h]; rfl⟩

/-! ## The gathered edges -/

/-- The features' numbers, as the gather takes them. -/
def featStart : IVec S65536x16x1 32 :=
  broadcastInDim S65536x16x1 ![0, 1] bcast_S65536x16_S65536x16x1_0_1
    (broadcastInDim S65536x16 ![0, 1] bcast_S1x16_S65536x16_0_1
      (select (cmpi .slt (broadcastInDim S1x16 ![1] bcast_S16_S1x16_1 (iotaInDim S16 32 0)) (broadcastInDim S1x16 ![] bcast_S_S1x16 (constantI S_ 32 0#32)))
        (addi (broadcastInDim S1x16 ![1] bcast_S16_S1x16_1 (iotaInDim S16 32 0)) (broadcastInDim S1x16 ![] bcast_S_S1x16 (constantI S_ 32 16#32)))
        (broadcastInDim S1x16 ![1] bcast_S16_S1x16_1 (iotaInDim S16 32 0))))

theorem featStart_apply (n : Fin 65536) (f : Fin 16) (z : Fin 1) : featStart (ix3 n f z) = BitVec.ofNat 32 f.val := by
  have hi : broadcastInDim S1x16 ![1] bcast_S16_S1x16_1 (iotaInDim S16 32 0) (ix2 (n0 := 1) (n1 := 16) 0 f) = BitVec.ofNat 32 f.val :=
    broadcastInDim_apply _ _ _ _ (ix1 (n0 := 16) f) fun a => by
      match a with
      | ⟨0, _⟩ => rfl
  unfold featStart
  rw [spread1, broadcastInDim_apply _ _ _ _ (ix2 (n0 := 1) (n1 := 16) 0 f) (fun a => by
      match a with
      | ⟨0, _⟩ => rfl
      | ⟨1, _⟩ => rfl)]
  show Scalar.select (IntOp.cmpi .slt (broadcastInDim S1x16 ![1] bcast_S16_S1x16_1 (iotaInDim S16 32 0) (ix2 (n0 := 1) (n1 := 16) 0 f)) 0#32) _
    (broadcastInDim S1x16 ![1] bcast_S16_S1x16_1 (iotaInDim S16 32 0) (ix2 (n0 := 1) (n1 := 16) 0 f)) = _
  rw [hi, slt_zero_ofNat (by omega)]
  rfl

/-- Edge numbers, as the gather takes them. -/
def edgeStart (i : IVec S65536x16 32) : IVec S65536x16x1 32 :=
  broadcastInDim S65536x16x1 ![0, 1] bcast_S65536x16_S65536x16x1_0_1
    (select (cmpi .slt i (broadcastInDim S65536x16 ![] bcast_S_S65536x16 (constantI S_ 32 0#32)))
      (addi i (broadcastInDim S65536x16 ![] bcast_S_S65536x16 (constantI S_ 32 17#32))) i)

theorem edgeStart_apply {i : IVec S65536x16 32} {n : Fin 65536} {f : Fin 16} {k : ℕ} (hk : k < 17) (hi : i (ix2 n f) = BitVec.ofNat 32 k)
    (z : Fin 1) : edgeStart i (ix3 n f z) = BitVec.ofNat 32 k := by
  unfold edgeStart
  rw [spread1]
  show Scalar.select (IntOp.cmpi .slt (i (ix2 n f)) 0#32) _ (i (ix2 n f)) = _
  rw [hi, slt_zero_ofNat (by omega)]
  rfl

/-- The pairs of feature and edge. -/
def starts (i : IVec S65536x16 32) : IVec S65536x16x2 32 :=
  concatenate S65536x16x2 2 [⟨S65536x16x1, featStart⟩, ⟨S65536x16x1, edgeStart i⟩] concatenates_S65536x16x1_S65536x16x1_S65536x16x2_d2

theorem starts_zero (i : IVec S65536x16 32) (n : Fin 65536) (f : Fin 16) : starts i (ix3 n f 0) = BitVec.ofNat 32 f.val := by
  unfold starts
  refine (concatenate_pair_apply_left (t := S65536x16x2) (2 : Fin 3) featStart (edgeStart i) _ (ix3 n f 0) rfl (ix3 (n0 := 65536) (n1 := 16) (n2 := 1) n f 0) (fun a => ?_)).trans
    (featStart_apply n f 0)
  match a with
  | ⟨0, _⟩ => rfl
  | ⟨1, _⟩ => rfl
  | ⟨2, _⟩ => rfl

theorem starts_one {i : IVec S65536x16 32} {n : Fin 65536} {f : Fin 16} {k : ℕ} (hk : k < 17) (hi : i (ix2 n f) = BitVec.ofNat 32 k) :
    starts i (ix3 n f 1) = BitVec.ofNat 32 k := by
  unfold starts
  refine (concatenate_pair_apply_right (t := S65536x16x2) (2 : Fin 3) featStart (edgeStart i) _ (ix3 n f 1) rfl rfl (ix3 (n0 := 65536) (n1 := 16) (n2 := 1) n f 0)
    (fun a ha => ?_) rfl).trans (edgeStart_apply hk hi 0)
  match a with
  | ⟨0, _⟩ => rfl
  | ⟨1, _⟩ => rfl
  | ⟨2, _⟩ => exact absurd rfl ha

/-- The table's entries at those pairs. -/
def edgeAt (i : IVec S65536x16 32) : FVec Ideal S65536x16 .f32 :=
  Host.gather gather_S16x17_S65536x16x2_S65536x16_n_01_n_n_01_2_11 e (starts i)

/-- A small natural read back from its word. -/
theorem toNat_ofNat_small {k : ℕ} (hk : k < 2 ^ 31) : (BitVec.ofNat 32 k).toInt.toNat = k := by
  rw [BitVec.toInt_ofNat', Int.bmod_eq_of_le (by omega) (by omega), Int.toNat_natCast]

theorem edgeAt_apply {i : IVec S65536x16 32} {n : Fin 65536} {f : Fin 16} {k : ℕ} (hk : k < 17) (hi : i (ix2 n f) = BitVec.ofNat 32 k) :
    edgeAt e i (ix2 n f) = edge e f k := by
  rw [← edge_eq e f hk]
  unfold edgeAt Host.gather
  refine congrArg e (funext fun a => Fin.ext ?_)
  show GatherDims.start _ _ _ a + GatherDims.batchCoord _ _ a + GatherDims.offCoord _ _ a = _
  rw [GatherDims.batchCoord_eq_zero _ _ _ List.not_mem_nil, GatherDims.offCoord_eq_zero _ _ _ (fun h => by
    refine ((GatherDims.mem_sKept _ _).mp h).1 ?_
    match a with
    | ⟨0, _⟩ => exact List.mem_cons_self
    | ⟨1, _⟩ => exact List.mem_cons_of_mem _ (List.mem_singleton.mpr rfl))]
  simp only [Nat.add_zero]
  unfold GatherDims.start
  match a with
  | ⟨0, _⟩ =>
    refine (dif_pos (show (0 : Fin 2) ∈ [0, 1] from List.mem_cons_self)).trans ?_
    have hs : GatherDims.siIdx gather_S16x17_S65536x16x2_S65536x16_n_01_n_n_01_2_11 (ix2 n f) ⟨0, by decide⟩ = ix3 n f 0 := by
      funext b; refine Fin.ext ?_
      match b with
      | ⟨0, _⟩ => rfl
      | ⟨1, _⟩ => rfl
      | ⟨2, _⟩ => rfl
    refine Eq.trans (congrArg (fun j => min (starts i j).toInt.toNat 15) hs) ?_
    rw [starts_zero, toNat_ofNat_small (by omega)]
    show min f.val 15 = f.val
    omega
  | ⟨1, _⟩ =>
    refine (dif_pos (show (1 : Fin 2) ∈ [0, 1] from List.mem_cons_of_mem _ (List.mem_singleton.mpr rfl))).trans ?_
    have hs : GatherDims.siIdx gather_S16x17_S65536x16x2_S65536x16_n_01_n_n_01_2_11 (ix2 n f) ⟨1, by decide⟩ = ix3 n f 1 := by
      funext b; refine Fin.ext ?_
      match b with
      | ⟨0, _⟩ => rfl
      | ⟨1, _⟩ => rfl
      | ⟨2, _⟩ => rfl
    refine Eq.trans (congrArg (fun j => min (starts i j).toInt.toNat 16) hs) ?_
    rw [starts_one hk hi, toNat_ofNat_small (by omega)]
    show min k 16 = k
    omega

/-! ## The result -/

/-- The edge after. -/
def nextBins : IVec S65536x16 32 := addi (bins x e) (broadcastInDim S65536x16 ![] bcast_S_S65536x16 (constantI S_ 32 1#32))

theorem nextBins_apply (n : Fin 65536) (f : Fin 16) : nextBins x e (ix2 n f) = BitVec.ofNat 32 (binOf (edge e f) (x (ix2 n f)) + 1) := by
  show bins x e (ix2 n f) + 1#32 = _
  rw [bins_apply, BitVec.ofNat_add]

/-- The place of each input in its bin. -/
def ratios : FVec Ideal S65536x16 .f32 :=
  Host.divf (subf x (edgeAt e (bins x e))) (subf (edgeAt e (nextBins x e)) (edgeAt e (bins x e)))

theorem ratios_apply (n : Fin 65536) (f : Fin 16) :
    ratios x e (ix2 n f) = Ideal.div (x (ix2 n f) - edge e f (binOf (edge e f) (x (ix2 n f))))
      (edge e f (binOf (edge e f) (x (ix2 n f)) + 1) - edge e f (binOf (edge e f) (x (ix2 n f)))) := by
  have hb := binOf_le (edge e f) (x (ix2 n f))
  show Ideal.div (x (ix2 n f) - edgeAt e (bins x e) (ix2 n f)) (edgeAt e (nextBins x e) (ix2 n f) - edgeAt e (bins x e) (ix2 n f)) = _
  rw [edgeAt_apply e (by omega) (bins_apply x e n f), edgeAt_apply e (by omega) (nextBins_apply x e n f)]

/-- The bins' numbers. -/
def binNos : IVec S65536x16x16 32 :=
  broadcastInDim S65536x16x16 ![0, 1, 2] bcast_S1x1x16_S65536x16x16_0_1_2 (broadcastInDim S1x1x16 ![2] bcast_S16_S1x1x16_2 (iotaInDim S16 32 0))

theorem binNos_apply (n : Fin 65536) (f b : Fin 16) : binNos (ix3 n f b) = BitVec.ofNat 32 b.val := by
  unfold binNos
  rw [broadcastInDim_apply _ _ _ _ (ix3 (n0 := 1) (n1 := 1) (n2 := 16) 0 0 b) (fun a => by
      match a with
      | ⟨0, _⟩ => rfl
      | ⟨1, _⟩ => rfl
      | ⟨2, _⟩ => rfl),
    broadcastInDim_apply _ _ _ _ (ix1 (n0 := 16) b) (fun a => by
      match a with
      | ⟨0, _⟩ => rfl)]
  rfl

/-- A row's entry spread over the bins. -/
def overBins {α : Type} (v : S65536x16.Idx → α) : S65536x16x16.Idx → α :=
  broadcastInDim S65536x16x16 ![0, 1, 2] bcast_S65536x16x1_S65536x16x16_0_1_2
    (broadcastInDim S65536x16x1 ![0, 1] bcast_S65536x16_S65536x16x1_0_1 v)

/-- What the reference computes of its two arguments. -/
def refOut : FVec Ideal S65536x16x16 .f32 :=
  select (cmpi .eq binNos (overBins (bins x e))) (overBins (ratios x e))
    (select (cmpi .slt binNos (overBins (bins x e)))
      (broadcastInDim S65536x16x16 ![] bcast_S_S65536x16x16 (constant S_ .f32 0x3F800000#32))
      (broadcastInDim S65536x16x16 ![] bcast_S_S65536x16x16 (constant S_ .f32 0x00000000#32)))

/-- Entry `(n, f, b)` of the reference's result: by the bin index. -/
theorem refOut_apply (n : Fin 65536) (f b : Fin 16) :
    refOut x e (ix3 n f b) =
      if b.val = binOf (edge e f) (x (ix2 n f)) then
        Ideal.div (x (ix2 n f) - edge e f (binOf (edge e f) (x (ix2 n f))))
          (edge e f (binOf (edge e f) (x (ix2 n f)) + 1) - edge e f (binOf (edge e f) (x (ix2 n f))))
      else if b.val < binOf (edge e f) (x (ix2 n f)) then 1 else 0 := by
  have hb := binOf_le (edge e f) (x (ix2 n f))
  show Scalar.select (IntOp.cmpi .eq (binNos (ix3 n f b)) (overBins (bins x e) (ix3 n f b))) (overBins (ratios x e) (ix3 n f b))
    (Scalar.select (IntOp.cmpi .slt (binNos (ix3 n f b)) (overBins (bins x e) (ix3 n f b))) (Ideal.ofBits .f32 0x3F800000#32)
      (Ideal.ofBits .f32 0x00000000#32)) = _
  unfold overBins
  rw [spread16, spread16, binNos_apply, bins_apply, ratios_apply, eq_ofNat (by omega) (by omega), slt_ofNat (by omega) (by omega),
    select_decide, select_decide, Ideal.ofBits_one_f32, Ideal.ofBits_zero_f32]

set_option maxRecDepth 8192 in
/-- It is the composed term of the reference's operations. -/
theorem res_eq (m : (ℓ : Loc nD τ sig) → Buf (Elt Ideal) ℓ) (c : Dev nD) :
    Cert.ReferenceIdeal.Value.res_main_v58 m c
      = refOut (m ((c.tc : Thread nD τ).loc main_arg0)) (m ((c.tc : Thread nD τ).loc main_arg1)) := rfl

end Cert.Proof.Encode
-- ==== Proof.Algebra.lean ====
/-
  The value: over the extended reals, from arguments on which the edges are evenly spaced and the inputs lie among them, the
  program's result is the reference's.
-/
module

public import proofs.«01_k».proof.Defs
public import proofs.«01_k».proof.Proof.Launch
public import proofs.«01_k».proof.Proof.Layout
public import proofs.«01_k».proof.Proof.RefValue

@[expose] public section

noncomputable section

namespace Cert.Proof.Encode

open Idealize.ShloMosaic Idealize.SL.Sem

/-- The scale of the first bin of a half, over the extended reals. -/
theorem scaleOf_apply (e : FVec Ideal ⟨2, ![16, 17]⟩ .f32) (f b : Fin 16) :
    scaleOf e (ix2 f b) = Ideal.div 1 (edge e f (b.val + 1) - edge e f b.val) := by
  unfold scaleOf leftsOf
  refine congrArg₂ Ideal.div Ideal.ofBits_one_f32 (congrArg₂ (fun u v : EReal => u - v) ?_ ?_)
  · exact slice_edge e _ f b (by omega)
  · exact slice_edge e _ f b (by omega)

/-- The offset of a bin, over the extended reals. -/
theorem noffOf_apply (e : FVec Ideal ⟨2, ![16, 17]⟩ .f32) (f b : Fin 16) :
    noffOf e (ix2 f b) = -edge e f b.val * Ideal.div 1 (edge e f (b.val + 1) - edge e f b.val) :=
  congrArg₂ (fun u v : EReal => -u * v) (slice_edge e _ f b (by omega)) (scaleOf_apply e f b)

/-- One encoded value, over the extended reals. -/
theorem enc_ideal (x s o : EReal) : enc (F := Ideal) x s o = min (max (x * s + o) 0) 1 := by
  show min (max (x * s + o) (Ideal.ofBits .f32 0x00000000#32)) (Ideal.ofBits .f32 0x3F800000#32) = _
  rw [Ideal.ofBits_one_f32, Ideal.ofBits_zero_f32]

/-- THE VALUE: under the condition the two results are one array. -/
theorem out_eq {x : FVec Ideal ⟨2, ![65536, 16]⟩ .f32} {e : FVec Ideal ⟨2, ![16, 17]⟩ .f32}
    (h : Cert.Pre_evenly_spaced.fn (F := Ideal) x e = fun _ => 1#1) : refOut x e = kernelOut (F := Ideal) x e := by
  funext j
  obtain ⟨n, f, b, rfl⟩ : ∃ (n : Fin 65536) (f b : Fin 16), j = ix3 n f b := ⟨j 0, j 1, j 2, (ix3_eta j).symm⟩
  have hs := spaced_of_pre h n f
  rw [refOut_apply, kernelOut_apply, enc_ideal, scaleOf_apply, noffOf_apply, hs.width b.val b.isLt]
  exact (hs.clamp_eq b.isLt).symm

theorem algebraic : Cert.algebraic_KernelIdeal_ReferenceIdeal_pre_evenly_spaced := fun m g m' g' hpre hargs => by
  refine ⟨fun c => kernelOut (F := Ideal) (m (aLoc c)) (m (eLoc c)), ?_, ?_⟩
  · exact (θ_run Cert.KernelIdeal.defs _ _).mono (fun _ h c => h.1 c) (run_main (F := Ideal) m g)
  · refine (θ_run Cert.ReferenceIdeal.defs _ _).mono (fun _ h c => ⟨(h c).1.trans ?_, (h c).2⟩) (Cert.ReferenceIdeal.Value.run (F := Ideal) m' g')
    rw [res_eq, (hargs c).1, (hargs c).2]
    exact out_eq (hpre c)

end Cert.Proof.Encode
-- ==== Proof.lean ====
module

public import proofs.«01_k».proof.Defs
public import proofs.«01_k».proof.Proof.Frames
public import proofs.«01_k».proof.Proof.Algebra
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_evenly_spaced
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Pre_evenly_spaced.Gen.facts,
  Encode.frame_Kernel, Encode.frame_KernelIdeal, Encode.frame_KernelIdeal_pre, Encode.frame_ReferenceIdeal, Encode.frame_ReferenceIdeal_pre,
  trivial, Encode.algebraic⟩

end Cert.Proof

end
